-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v79)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v80)) (v3 : (c : Dev Cert.KernelIdeal.nD) → Buf (Elt Ideal) ((c.tc : Thread Cert.KernelIdeal.nD Cert.KernelIdeal.τ).loc Cert.KernelIdeal.main_v75)) (v4 : (c : Dev Cert.KernelIdeal.nD) → Buf (Elt Ideal) ((c.tc : Thread Cert.KernelIdeal.nD Cert.KernelIdeal.τ).loc Cert.KernelIdeal.main_v17)) (v5 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v80) = v2 c
          ∧ r.2.mem ((c.tc : Thread Cert.KernelIdeal.nD Cert.KernelIdeal.τ).loc Cert.KernelIdeal.main_v75) = v3 c
          ∧ r.2.mem ((c.tc : Thread Cert.KernelIdeal.nD Cert.KernelIdeal.τ).loc Cert.KernelIdeal.main_v17) = v4 c
          ∧ r.2.mem ((c.tc : Thread Cert.KernelIdeal.nD Cert.KernelIdeal.τ).loc Cert.KernelIdeal.main_v21) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v118) = v2 c
          ∧ r.2.mem ((c.tc : Thread Cert.ReferenceIdeal.nD Cert.ReferenceIdeal.τ).loc Cert.ReferenceIdeal.main_v126) = v3 c
          ∧ r.2.mem ((c.tc : Thread Cert.ReferenceIdeal.nD Cert.ReferenceIdeal.τ).loc Cert.ReferenceIdeal.main_indices) = v4 c
          ∧ r.2.mem ((c.tc : Thread Cert.ReferenceIdeal.nD Cert.ReferenceIdeal.τ).loc Cert.ReferenceIdeal.main_v61) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S20000x4 : Shape := ⟨2, ![20000, 4]⟩
abbrev S20000x32 : Shape := ⟨2, ![20000, 32]⟩
abbrev S32x64 : Shape := ⟨2, ![32, 64]⟩
abbrev S64 : Shape := ⟨1, ![64]⟩
abbrev S64x1 : Shape := ⟨2, ![64, 1]⟩
abbrev S1 : Shape := ⟨1, ![1]⟩
abbrev S64x64 : Shape := ⟨2, ![64, 64]⟩
abbrev S27x64 : Shape := ⟨2, ![27, 64]⟩
abbrev S64x13 : Shape := ⟨2, ![64, 13]⟩
abbrev S13 : Shape := ⟨1, ![13]⟩
abbrev S20000x3 : Shape := ⟨2, ![20000, 3]⟩
abbrev S_ : Shape := ⟨0, ![]⟩

class Facts : Prop where
  slices_S20000x4_S20000x3_0_1 : S20000x4.Slices ![0, 1] S20000x3
  bcast_S_S20000x3 : S_.BroadcastsInDim S20000x3 (![] : Fin 0 → Fin S20000x3.rank)
  reducesTo_S20000x3_S_d0_1 : S20000x3.ReducesTo [0, 1] S_
  h_S_ : 0 < S_.numel
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S27x64 : S_.BroadcastsInDim S27x64 (![] : Fin 0 → Fin S27x64.rank)
  reducesTo_S27x64_S_d0_1 : S27x64.ReducesTo [0, 1] S_

variable [Facts]

def fn_part1 {F : FTy → Type} [FloatOps F] (main_arg8 : FVec F S64x64 .f32) (main_arg11 : FVec F S27x64 .f32) (main_v16 : IVec S_ 1) : IVec S_ 1 :=
  let main_v17 : FVec F S64x64 .f32 := Host.absf main_arg8
  let main_cst_5 : FVec F S_ .f32 := constant S_ .f32 0x7F800000#32
  let main_v18 : FVec F S64x64 .f32 := broadcastInDim S64x64 ![] bcast_S_S64x64 main_cst_5
  let main_v19 : IVec S64x64 1 := cmpf .olt main_v17 main_v18
  let main_c_6 : IVec S_ 1 := constantI S_ 1 1#1
  let main_v20 : IVec S_ 1 := (fun x v => Host.reduce IntOp.andi x v reducesTo_S64x64_S_d0_1 h_S_) main_v19 main_c_6
  let main_v21 : IVec S_ 1 := andi main_v16 main_v20
  let main_v22 : FVec F S27x64 .f32 := Host.absf main_arg11
  let main_cst_7 : FVec F S_ .f32 := constant S_ .f32 0x7F800000#32
  let main_v23 : FVec F S27x64 .f32 := broadcastInDim S27x64 ![] bcast_S_S27x64 main_cst_7
  let main_v24 : IVec S27x64 1 := cmpf .olt main_v22 main_v23
  let main_c_8 : IVec S_ 1 := constantI S_ 1 1#1
  let main_v25 : IVec S_ 1 := (fun x v => Host.reduce IntOp.andi x v reducesTo_S27x64_S_d0_1 h_S_) main_v24 main_c_8
  let main_v26 : IVec S_ 1 := andi main_v21 main_v25
  main_v26

def fn {F : FTy → Type} [FloatOps F] (main_arg0 : IVec S20000x4 32) (main_arg1 : FVec F S20000x32 .f32) (main_arg2 : FVec F S20000x32 .f32) (main_arg3 : FVec F S32x64 .f32) (main_arg4 : FVec F S64 .f32) (main_arg5 : FVec F S64 .f32) (main_arg6 : FVec F S64x1 .f32) (main_arg7 : FVec F S1 .f32) (main_arg8 : FVec F S64x64 .f32) (main_arg9 : FVec F S64x64 .f32) (main_arg10 : FVec F S32x64 .f32) (main_arg11 : FVec F S27x64 .f32) (main_arg12 : FVec F S64x64 .f32) (main_arg13 : FVec F S64 .f32) (main_arg14 : FVec F S64x13 .f32) (main_arg15 : FVec F S13 .f32) : IVec S_ 1 :=
  let main_v0 : IVec S20000x3 32 := (extractStridedSlice S20000x3 ![0, 1] · slices_S20000x4_S20000x3_0_1) main_arg0
  let main_c : IVec S_ 32 := constantI S_ 32 0#32
  let main_v1 : IVec S20000x3 32 := broadcastInDim S20000x3 ![] bcast_S_S20000x3 main_c
  let main_v2 : IVec S20000x3 1 := cmpi .sge main_v0 main_v1
  let main_c_0 : IVec S_ 32 := constantI S_ 32 64#32
  let main_v3 : IVec S20000x3 32 := broadcastInDim S20000x3 ![] bcast_S_S20000x3 main_c_0
  let main_v4 : IVec S20000x3 1 := cmpi .slt main_v0 main_v3
  let main_v5 : IVec S20000x3 1 := andi main_v2 main_v4
  let main_c_1 : IVec S_ 1 := constantI S_ 1 1#1
  let main_v6 : IVec S_ 1 := (fun x v => Host.reduce IntOp.andi x v reducesTo_S20000x3_S_d0_1 h_S_) main_v5 main_c_1
  let main_v7 : FVec F S64 .f32 := Host.absf main_arg4
  let main_cst : FVec F S_ .f32 := constant S_ .f32 0x7F800000#32
  let main_v8 : FVec F S64 .f32 := broadcastInDim S64 ![] bcast_S_S64 main_cst
  let main_v9 : IVec S64 1 := cmpf .olt main_v7 main_v8
  let main_c_2 : IVec S_ 1 := constantI S_ 1 1#1
  let main_v10 : IVec S_ 1 := (fun x v => Host.reduce IntOp.andi x v reducesTo_S64_S_d0 h_S_) main_v9 main_c_2
  let main_v11 : IVec S_ 1 := andi main_v6 main_v10
  let main_v12 : FVec F S64 .f32 := Host.absf main_arg5
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  let main_c_4 : IVec S_ 1 := constantI S_ 1 1#1
  let main_v15 : IVec S_ 1 := (fun x v => Host.reduce IntOp.andi x v reducesTo_S64_S_d0 h_S_) main_v14 main_c_4
  let main_v16 : IVec S_ 1 := andi main_v11 main_v15
  fn_part1 (F := F) main_arg8 main_arg11 main_v16
-- ==== Kernel.lean ====
abbrev S20000x4 : Shape := ⟨2, ![20000, 4]⟩
abbrev S20000x32 : Shape := ⟨2, ![20000, 32]⟩
abbrev S32x64 : Shape := ⟨2, ![32, 64]⟩
abbrev S64 : Shape := ⟨1, ![64]⟩
abbrev S64x1 : Shape := ⟨2, ![64, 1]⟩
abbrev S1 : Shape := ⟨1, ![1]⟩
abbrev S64x64 : Shape := ⟨2, ![64, 64]⟩
abbrev S27x64 : Shape := ⟨2, ![27, 64]⟩
abbrev S64x13 : Shape := ⟨2, ![64, 13]⟩
abbrev S13 : Shape := ⟨1, ![13]⟩
abbrev S1x64 : Shape := ⟨2, ![1, 64]⟩
abbrev S1x1 : Shape := ⟨2, ![1, 1]⟩
abbrev S20000x64 : Shape := ⟨2, ![20000, 64]⟩
abbrev S20000x1 : Shape := ⟨2, ![20000, 1]⟩
abbrev S2000x32 : Shape := ⟨2, ![2000, 32]⟩
abbrev S2000x64 : Shape := ⟨2, ![2000, 64]⟩
abbrev S2000x1 : Shape := ⟨2, ![2000, 1]⟩
abbrev S2000 : Shape := ⟨1, ![2000]⟩
abbrev S20000x3 : Shape := ⟨2, ![20000, 3]⟩
abbrev S3x20000 : Shape := ⟨2, ![3, 20000]⟩
abbrev S_ : Shape := ⟨0, ![]⟩
abbrev S3x480 : Shape := ⟨2, ![3, 480]⟩
abbrev S3x20480 : Shape := ⟨2, ![3, 20480]⟩
abbrev S20000 : Shape := ⟨1, ![20000]⟩
abbrev S480 : Shape := ⟨1, ![480]⟩
abbrev S20480 : Shape := ⟨1, ![20480]⟩
abbrev S1x20480 : Shape := ⟨2, ![1, 20480]⟩
abbrev S20000x27 : Shape := ⟨2, ![20000, 27]⟩
abbrev S160x3 : Shape := ⟨2, ![160, 3]⟩
abbrev S160x1 : Shape := ⟨2, ![160, 1]⟩
abbrev S160x27 : Shape := ⟨2, ![160, 27]⟩
abbrev S160x20480 : Shape := ⟨2, ![160, 20480]⟩
abbrev S160x128 : Shape := ⟨2, ![160, 128]⟩
abbrev S160x640 : Shape := ⟨2, ![160, 640]⟩
abbrev S160 : Shape := ⟨1, ![160]⟩
abbrev S1x160x128 : Shape := ⟨3, ![1, 160, 128]⟩
abbrev S1x1x1 : Shape := ⟨3, ![1, 1, 1]⟩
abbrev S20000x132 : Shape := ⟨2, ![20000, 132]⟩
abbrev S540000 : Shape := ⟨1, ![540000]⟩
abbrev S540000x1 : Shape := ⟨2, ![540000, 1]⟩
abbrev S540000x132 : Shape := ⟨2, ![540000, 132]⟩
abbrev S20000x27x132 : Shape := ⟨3, ![20000, 27, 132]⟩
abbrev S20000x27x64 : Shape := ⟨3, ![20000, 27, 64]⟩
abbrev S20000x27x3 : Shape := ⟨3, ![20000, 27, 3]⟩
abbrev S20000x1x3 : Shape := ⟨3, ![20000, 1, 3]⟩
abbrev S20000x27x1 : Shape := ⟨3, ![20000, 27, 1]⟩
abbrev S64x27 : Shape := ⟨2, ![64, 27]⟩
abbrev S1x1x27 : Shape := ⟨3, ![1, 1, 27]⟩
abbrev S20000x27x27 : Shape := ⟨3, ![20000, 27, 27]⟩
abbrev S20000x13 : Shape := ⟨2, ![20000, 13]⟩
abbrev S1x13 : Shape := ⟨2, ![1, 13]⟩
abbrev S20000x1x27 : Shape := ⟨3, ![20000, 1, 27]⟩

abbrev nBuf : Space → Nat
  | .hbm => 131
  | .vmem => 30
  | .smem => 0
  | _ => 0

abbrev hbmTy0_0 (i : Nat) : BufTy := match i % 128 with
  | 0 => ⟨S20000x4, .i32⟩
  | 1 => ⟨S20000x32, .f32⟩
  | 2 => ⟨S20000x32, .f32⟩
  | 3 => ⟨S32x64, .f32⟩
  | 4 => ⟨S64, .f32⟩
  | 5 => ⟨S64, .f32⟩
  | 6 => ⟨S64x1, .f32⟩
  | 7 => ⟨S1, .f32⟩
  | 8 => ⟨S64x64, .f32⟩
  | 9 => ⟨S64x64, .f32⟩
  | 10 => ⟨S32x64, .f32⟩
  | 11 => ⟨S27x64, .f32⟩
  | 12 => ⟨S64x64, .f32⟩
  | 13 => ⟨S64, .f32⟩
  | 14 => ⟨S64x13, .f32⟩
  | 15 => ⟨S13, .f32⟩
  | 16 => ⟨S1x64, .f32⟩
  | 17 => ⟨S1x64, .f32⟩
  | 18 => ⟨S1x1, .f32⟩
  | 19 => ⟨S20000x64, .f32⟩
  | 20 => ⟨S20000x1, .f32⟩
  | 21 => ⟨S20000x64, .f32⟩
  | 22 => ⟨S20000x64, .f32⟩
  | 23 => ⟨S20000x64, .f32⟩
  | 24 => ⟨S20000x3, .i32⟩
  | 25 => ⟨S20000x3, .i8⟩
  | 26 => ⟨S3x20000, .i8⟩
  | 27 => ⟨S_, .i8⟩
  | 28 => ⟨S3x480, .i8⟩
  | 29 => ⟨S3x20480, .i8⟩
  | 30 => ⟨S20000x3, .i32⟩
  | 31 => ⟨S_, .i32⟩
  | 32 => ⟨S20000, .i32⟩
  | 33 => ⟨S_, .i32⟩
  | 34 => ⟨S480, .i32⟩
  | 35 => ⟨S20480, .i32⟩
  | 36 => ⟨S20000x1, .i32⟩
  | 37 => ⟨S1x20480, .i32⟩
  | 38 => ⟨S20000x27, .i32⟩
  | 39 => ⟨S_, .i32⟩
  | 40 => ⟨S20000x27, .i32⟩
  | 41 => ⟨S20000x27, .i32⟩
  | 42 => ⟨S_, .i32⟩
  | 43 => ⟨S20000x27, .i32⟩
  | 44 => ⟨S20000x27, .i32⟩
  | 45 => ⟨S_, .i32⟩
  | 46 => ⟨S20000x27, .i32⟩
  | 47 => ⟨S20000x27, .i1⟩
  | 48 => ⟨S20000x3, .f32⟩
  | 49 => ⟨S_, .f32⟩
  | 50 => ⟨S20000x1, .f32⟩
  | 51 => ⟨S20000x132, .f32⟩
  | 52 => ⟨S540000, .i32⟩
  | 53 => ⟨S540000x1, .i32⟩
  | 54 => ⟨S540000x132, .f32⟩
  | 55 => ⟨S20000x27x132, .f32⟩
  | 56 => ⟨S20000x27x64, .f32⟩
  | 57 => ⟨S20000x27x64, .f32⟩
  | 58 => ⟨S20000x27x3, .f32⟩
  | 59 => ⟨S20000x27x3, .i32⟩
  | 60 => ⟨S20000x1x3, .i32⟩
  | 61 => ⟨S20000x27x3, .i32⟩
  | 62 => ⟨S20000x27x3, .i32⟩
  | 63 => ⟨S_, .i32⟩
  | 64 => ⟨S20000x27x3, .i32⟩
  | 65 => ⟨S20000x27x3, .i32⟩
  | 66 => ⟨S_, .i32⟩
  | 67 => ⟨S_, .i32⟩
  | 68 => ⟨S_, .i32⟩
  | 69 => ⟨S20000x27x3, .i32⟩
  | 70 => ⟨S20000x27x3, .i32⟩
  | 71 => ⟨S_, .i32⟩
  | 72 => ⟨S20000x27x3, .i32⟩
  | 73 => ⟨S20000x27x3, .i32⟩
  | 74 => ⟨S20000x27x1, .i32⟩
  | 75 => ⟨S20000x27, .i32⟩
  | 76 => ⟨S_, .i32⟩
  | 77 => ⟨S20000x27, .i32⟩
  | 78 => ⟨S20000x27, .i32⟩
  | 79 => ⟨S20000x27x1, .i32⟩
  | 80 => ⟨S20000x27, .i32⟩
  | 81 => ⟨S_, .i32⟩
  | 82 => ⟨S20000x27, .i32⟩
  | 83 => ⟨S20000x27, .i32⟩
  | 84 => ⟨S20000x27, .i32⟩
  | 85 => ⟨S20000x27x1, .i32⟩
  | 86 => ⟨S20000x27, .i32⟩
  | 87 => ⟨S20000x27, .i32⟩
  | 88 => ⟨S64x27, .f32⟩
  | 89 => ⟨S20000x27, .f32⟩
  | 90 => ⟨S20000x27x1, .i32⟩
  | 91 => ⟨S1x1x27, .i32⟩
  | 92 => ⟨S20000x27x27, .i32⟩
  | 93 => ⟨S20000x27x27, .i32⟩
  | 94 => ⟨S20000x27x27, .i1⟩
  | 95 => ⟨S20000x27x27, .f32⟩
  | 96 => ⟨S20000x27, .f32⟩
  | 97 => ⟨S20000x27, .f32⟩
  | 98 => ⟨S20000x27, .f32⟩
  | 99 => ⟨S_, .f32⟩
  | 100 => ⟨S20000x27, .f32⟩
  | 101 => ⟨S20000x27, .f32⟩
  | 102 => ⟨S_, .f32⟩
  | 103 => ⟨S_, .f32⟩
  | 104 => ⟨S20000x27, .f32⟩
  | 105 => ⟨S20000x27, .f32⟩
  | 106 => ⟨S_, .f32⟩
  | 107 => ⟨S20000, .f32⟩
  | 108 => ⟨S_, .f32⟩
  | 109 => ⟨S20000, .f32⟩
  | 110 => ⟨S20000, .f32⟩
  | 111 => ⟨S20000x1, .f32⟩
  | 112 => ⟨S20000x27, .f32⟩
  | 113 => ⟨S20000x27, .f32⟩
  | 114 => ⟨S20000x27, .f32⟩
  | 115 => ⟨S_, .f32⟩
  | 116 => ⟨S20000, .f32⟩
  | 117 => ⟨S20000x1, .f32⟩
  | 118 => ⟨S20000x27, .f32⟩
  | 119 => ⟨S20000x27, .f32⟩
  | 120 => ⟨S20000x64, .f32⟩
  | 121 => ⟨S20000x64, .f32⟩
  | 122 => ⟨S20000x64, .f32⟩
  | 123 => ⟨S1x64, .f32⟩
  | 124 => ⟨S20000x64, .f32⟩
  | 125 => ⟨S20000x64, .f32⟩
  | 126 => ⟨S20000x13, .f32⟩
  | 127 => ⟨S1x13, .f32⟩
  | _ => ⟨S20000x4, .i32⟩

abbrev hbmTy0_1 (i : Nat) : BufTy := match i % 128 with
  | 0 => ⟨S20000x13, .f32⟩
  | 1 => ⟨S20000x13, .f32⟩
  | 2 => ⟨S20000x1x27, .f32⟩
  | _ => ⟨S20000x4, .i32⟩

abbrev hbmTy (i : Nat) : BufTy := match i / 128 with
  | 0 => hbmTy0_0 i
  | 1 => hbmTy0_1 i
  | _ => ⟨S20000x4, .i32⟩

abbrev bufTy : (tb : Table) → Fin (tcTables nBuf tb) → BufTy
  | .hbm, ⟨i, _⟩ => hbmTy i
  | .local _ .vmem, ⟨0, _⟩ => ⟨S2000x32, .f32⟩
  | .local _ .vmem, ⟨1, _⟩ => ⟨S2000x32, .f32⟩
  | .local _ .vmem, ⟨2, _⟩ => ⟨S2000x32, .f32⟩
  | .local _ .vmem, ⟨3, _⟩ => ⟨S2000x32, .f32⟩
  | .local _ .vmem, ⟨4, _⟩ => ⟨S32x64, .f32⟩
  | .local _ .vmem, ⟨5, _⟩ => ⟨S1x64, .f32⟩
  | .local _ .vmem, ⟨6, _⟩ => ⟨S1x64, .f32⟩
  | .local _ .vmem, ⟨7, _⟩ => ⟨S64x1, .f32⟩
  | .local _ .vmem, ⟨8, _⟩ => ⟨S1x1, .f32⟩
  | .local _ .vmem, ⟨9, _⟩ => ⟨S64x64, .f32⟩
  | .local _ .vmem, ⟨10, _⟩ => ⟨S64x64, .f32⟩
  | .local _ .vmem, ⟨11, _⟩ => ⟨S32x64, .f32⟩
  | .local _ .vmem, ⟨12, _⟩ => ⟨S2000x64, .f32⟩
  | .local _ .vmem, ⟨13, _⟩ => ⟨S2000x64, .f32⟩
  | .local _ .vmem, ⟨14, _⟩ => ⟨S2000x1, .f32⟩
  | .local _ .vmem, ⟨15, _⟩ => ⟨S2000x1, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S160x3, .i8⟩
  | .local _ .vmem, ⟨23, _⟩ => ⟨S160x3, .i8⟩
  | .local _ .vmem, ⟨24, _⟩ => ⟨S3x20480, .i8⟩
  | .local _ .vmem, ⟨25, _⟩ => ⟨S160x1, .i32⟩
  | .local _ .vmem, ⟨26, _⟩ => ⟨S160x1, .i32⟩
  | .local _ .vmem, ⟨27, _⟩ => ⟨S1x20480, .i32⟩
  | .local _ .vmem, ⟨28, _⟩ => ⟨S160x27, .i32⟩
  | .local _ .vmem, ⟨29, _⟩ => ⟨S160x27, .i32⟩
  | _, _ => ⟨S20000x4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3_0 : Ref sig .tc := ⟨.hbm, 19, rfl⟩
abbrev main_v3_1 : Ref sig .tc := ⟨.hbm, 20, rfl⟩
abbrev main_v3_2 : Ref sig .tc := ⟨.hbm, 21, rfl⟩
abbrev main_v3_3 : Ref sig .tc := ⟨.hbm, 22, rfl⟩
abbrev main_v3_4 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_c : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_c_0 : Ref sig .tc := ⟨.hbm, 31, rfl⟩
abbrev main_v10 : Ref sig .tc := ⟨.hbm, 32, rfl⟩
abbrev main_c_1 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_c_2 : Ref sig .tc := ⟨.hbm, 39, rfl⟩
abbrev main_v16 : Ref sig .tc := ⟨.hbm, 40, rfl⟩
abbrev main_v17 : Ref sig .tc := ⟨.hbm, 41, rfl⟩
abbrev main_c_3 : Ref sig .tc := ⟨.hbm, 42, rfl⟩
abbrev main_v18 : Ref sig .tc := ⟨.hbm, 43, rfl⟩
abbrev main_v19 : Ref sig .tc := ⟨.hbm, 44, rfl⟩
abbrev main_c_4 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_call0_v0 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_c_5 : Ref sig .tc := ⟨.hbm, 63, rfl⟩
abbrev main_v35 : Ref sig .tc := ⟨.hbm, 64, rfl⟩
abbrev main_v36 : Ref sig .tc := ⟨.hbm, 65, rfl⟩
abbrev main_c_6 : Ref sig .tc := ⟨.hbm, 66, rfl⟩
abbrev main_c_7 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_c_8 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_c_9 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_call2_v0 : Ref sig .tc := ⟨.hbm, 90, rfl⟩
abbrev main_call2_v1 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_cst_10 : Ref sig .tc := ⟨.hbm, 99, rfl⟩
abbrev main_v56 : Ref sig .tc := ⟨.hbm, 100, rfl⟩
abbrev main_v57 : Ref sig .tc := ⟨.hbm, 101, rfl⟩
abbrev main_cst_11 : Ref sig .tc := ⟨.hbm, 102, rfl⟩
abbrev main_call3_v0 : Ref sig .tc := ⟨.hbm, 103, rfl⟩
abbrev main_call3_v1 : Ref sig .tc := ⟨.hbm, 104, rfl⟩
abbrev main_v58 : Ref sig .tc := ⟨.hbm, 105, rfl⟩
abbrev main_cst_12 : Ref sig .tc := ⟨.hbm, 106, rfl⟩
abbrev main_v59 : Ref sig .tc := ⟨.hbm, 107, rfl⟩
abbrev main_cst_13 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_cst_14 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg2_0 : Ref sig .tc := ⟨.vmem, 25, rfl⟩
abbrev cc1_stg2_1 : Ref sig .tc := ⟨.vmem, 26, rfl⟩
abbrev cc1_stg3_0 : Ref sig .tc := ⟨.vmem, 27, rfl⟩
abbrev cc1_stg4_0 : Ref sig .tc := ⟨.vmem, 28, rfl⟩
abbrev cc1_stg4_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc1_sem0_0 : DmaSem sig := 22
abbrev cc1_sem0_1 : DmaSem sig := 23
abbrev cc1_sem1_0 : DmaSem sig := 24
abbrev cc1_sem2_0 : DmaSem sig := 25
abbrev cc1_sem2_1 : DmaSem sig := 26
abbrev cc1_sem3_0 : DmaSem sig := 27
abbrev cc1_sem4_0 : DmaSem sig := 28
abbrev cc1_sem4_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2000x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2000x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2000x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2000x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2000x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S160x3 .i8 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x20480 .i8 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S160x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x20480 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S160x27 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S20000x4 : Shape := ⟨2, ![20000, 4]⟩
abbrev S20000x32 : Shape := ⟨2, ![20000, 32]⟩
abbrev S32x64 : Shape := ⟨2, ![32, 64]⟩
abbrev S64 : Shape := ⟨1, ![64]⟩
abbrev S64x1 : Shape := ⟨2, ![64, 1]⟩
abbrev S1 : Shape := ⟨1, ![1]⟩
abbrev S64x64 : Shape := ⟨2, ![64, 64]⟩
abbrev S27x64 : Shape := ⟨2, ![27, 64]⟩
abbrev S64x13 : Shape := ⟨2, ![64, 13]⟩
abbrev S13 : Shape := ⟨1, ![13]⟩
abbrev S20000x64 : Shape := ⟨2, ![20000, 64]⟩
abbrev S_ : Shape := ⟨0, ![]⟩
abbrev S20000 : Shape := ⟨1, ![20000]⟩
abbrev S20000x1 : Shape := ⟨2, ![20000, 1]⟩
abbrev S1x64 : Shape := ⟨2, ![1, 64]⟩
abbrev S1x1 : Shape := ⟨2, ![1, 1]⟩
abbrev S20000x3 : Shape := ⟨2, ![20000, 3]⟩
abbrev S1x20000 : Shape := ⟨2, ![1, 20000]⟩
abbrev S20000x20000 : Shape := ⟨2, ![20000, 20000]⟩
abbrev S3x20000 : Shape := ⟨2, ![3, 20000]⟩
abbrev S20000x27 : Shape := ⟨2, ![20000, 27]⟩
abbrev S20000x27x1 : Shape := ⟨3, ![20000, 27, 1]⟩
abbrev S20000x27x3 : Shape := ⟨3, ![20000, 27, 3]⟩
abbrev S20000x1x3 : Shape := ⟨3, ![20000, 1, 3]⟩
abbrev S20000x27x64 : Shape := ⟨3, ![20000, 27, 64]⟩
abbrev S20000x27x32 : Shape := ⟨3, ![20000, 27, 32]⟩
abbrev S20000x1x64 : Shape := ⟨3, ![20000, 1, 64]⟩
abbrev S20000x1x27 : Shape := ⟨3, ![20000, 1, 27]⟩
abbrev S20000x1x1 : Shape := ⟨3, ![20000, 1, 1]⟩
abbrev S20000x13 : Shape := ⟨2, ![20000, 13]⟩
abbrev S1x13 : Shape := ⟨2, ![1, 13]⟩

abbrev nBuf : Space → Nat
  | .hbm => 186
  | .vmem => 0
  | .smem => 0
  | _ => 0

abbrev hbmTy0_0 (i : Nat) : BufTy := match i % 128 with
  | 0 => ⟨S20000x4, .i32⟩
  | 1 => ⟨S20000x32, .f32⟩
  | 2 => ⟨S20000x32, .f32⟩
  | 3 => ⟨S32x64, .f32⟩
  | 4 => ⟨S64, .f32⟩
  | 5 => ⟨S64, .f32⟩
  | 6 => ⟨S64x1, .f32⟩
  | 7 => ⟨S1, .f32⟩
  | 8 => ⟨S64x64, .f32⟩
  | 9 => ⟨S64x64, .f32⟩
  | 10 => ⟨S32x64, .f32⟩
  | 11 => ⟨S27x64, .f32⟩
  | 12 => ⟨S64x64, .f32⟩
  | 13 => ⟨S64, .f32⟩
  | 14 => ⟨S64x13, .f32⟩
  | 15 => ⟨S13, .f32⟩
  | 16 => ⟨S20000x64, .f32⟩
  | 17 => ⟨S_, .f32⟩
  | 18 => ⟨S20000, .f32⟩
  | 19 => ⟨S20000x1, .f32⟩
  | 20 => ⟨S_, .f32⟩
  | 21 => ⟨S20000x1, .f32⟩
  | 22 => ⟨S20000x1, .f32⟩
  | 23 => ⟨S20000x64, .f32⟩
  | 24 => ⟨S20000x64, .f32⟩
  | 25 => ⟨S20000x64, .f32⟩
  | 26 => ⟨S_, .f32⟩
  | 27 => ⟨S20000, .f32⟩
  | 28 => ⟨S20000x1, .f32⟩
  | 29 => ⟨S_, .f32⟩
  | 30 => ⟨S20000x1, .f32⟩
  | 31 => ⟨S20000x1, .f32⟩
  | 32 => ⟨S20000x64, .f32⟩
  | 33 => ⟨S20000x64, .f32⟩
  | 34 => ⟨S_, .f32⟩
  | 35 => ⟨S20000x1, .f32⟩
  | 36 => ⟨S20000x1, .f32⟩
  | 37 => ⟨S20000x1, .f32⟩
  | 38 => ⟨S20000x64, .f32⟩
  | 39 => ⟨S20000x64, .f32⟩
  | 40 => ⟨S1x64, .f32⟩
  | 41 => ⟨S20000x64, .f32⟩
  | 42 => ⟨S20000x64, .f32⟩
  | 43 => ⟨S1x64, .f32⟩
  | 44 => ⟨S20000x64, .f32⟩
  | 45 => ⟨S20000x64, .f32⟩
  | 46 => ⟨S_, .f32⟩
  | 47 => ⟨S20000x64, .f32⟩
  | 48 => ⟨S20000x64, .f32⟩
  | 49 => ⟨S20000x1, .f32⟩
  | 50 => ⟨S1x1, .f32⟩
  | 51 => ⟨S20000x1, .f32⟩
  | 52 => ⟨S20000x1, .f32⟩
  | 53 => ⟨S20000x3, .i32⟩
  | 54 => ⟨S20000x3, .f32⟩
  | 55 => ⟨S20000x3, .f32⟩
  | 56 => ⟨S_, .f32⟩
  | 57 => ⟨S20000, .f32⟩
  | 58 => ⟨S20000x1, .f32⟩
  | 59 => ⟨S20000x3, .f32⟩
  | 60 => ⟨S_, .f32⟩
  | 61 => ⟨S20000, .f32⟩
  | 62 => ⟨S1x20000, .f32⟩
  | 63 => ⟨S20000x20000, .f32⟩
  | 64 => ⟨S20000x20000, .f32⟩
  | 65 => ⟨S20000x20000, .f32⟩
  | 66 => ⟨S3x20000, .f32⟩
  | 67 => ⟨S20000x20000, .f32⟩
  | 68 => ⟨S_, .f32⟩
  | 69 => ⟨S20000x20000, .f32⟩
  | 70 => ⟨S20000x20000, .f32⟩
  | 71 => ⟨S20000x20000, .f32⟩
  | 72 => ⟨S20000x20000, .f32⟩
  | 73 => ⟨S20000x27, .f32⟩
  | 74 => ⟨S20000x27, .i32⟩
  | 75 => ⟨S_, .i32⟩
  | 76 => ⟨S20000x27, .i32⟩
  | 77 => ⟨S20000x27, .i1⟩
  | 78 => ⟨S_, .i32⟩
  | 79 => ⟨S20000x27, .i32⟩
  | 80 => ⟨S20000x27, .i32⟩
  | 81 => ⟨S20000x27, .i32⟩
  | 82 => ⟨S20000x27x1, .i32⟩
  | 83 => ⟨S20000x27x3, .i32⟩
  | 84 => ⟨S20000x1x3, .i32⟩
  | 85 => ⟨S20000x27x3, .i32⟩
  | 86 => ⟨S20000x27x3, .i32⟩
  | 87 => ⟨S20000x27x3, .f32⟩
  | 88 => ⟨S20000x27x3, .f32⟩
  | 89 => ⟨S_, .f32⟩
  | 90 => ⟨S20000x27, .f32⟩
  | 91 => ⟨S_, .f32⟩
  | 92 => ⟨S20000x27, .f32⟩
  | 93 => ⟨S20000x27, .i1⟩
  | 94 => ⟨S_, .i32⟩
  | 95 => ⟨S20000x27x3, .i32⟩
  | 96 => ⟨S20000x27x3, .i32⟩
  | 97 => ⟨S_, .i32⟩
  | 98 => ⟨S_, .i32⟩
  | 99 => ⟨S_, .i32⟩
  | 100 => ⟨S20000x27x3, .i32⟩
  | 101 => ⟨S20000x27x3, .i32⟩
  | 102 => ⟨S_, .i32⟩
  | 103 => ⟨S20000x27x3, .i32⟩
  | 104 => ⟨S20000x27x3, .i32⟩
  | 105 => ⟨S20000x27x1, .i32⟩
  | 106 => ⟨S20000x27, .i32⟩
  | 107 => ⟨S_, .i32⟩
  | 108 => ⟨S20000x27, .i32⟩
  | 109 => ⟨S20000x27, .i32⟩
  | 110 => ⟨S20000x27x1, .i32⟩
  | 111 => ⟨S20000x27, .i32⟩
  | 112 => ⟨S_, .i32⟩
  | 113 => ⟨S20000x27, .i32⟩
  | 114 => ⟨S20000x27, .i32⟩
  | 115 => ⟨S20000x27, .i32⟩
  | 116 => ⟨S20000x27x1, .i32⟩
  | 117 => ⟨S20000x27, .i32⟩
  | 118 => ⟨S20000x27, .i32⟩
  | 119 => ⟨S_, .i32⟩
  | 120 => ⟨S20000x27, .i32⟩
  | 121 => ⟨S20000x27, .i1⟩
  | 122 => ⟨S_, .i32⟩
  | 123 => ⟨S20000x27, .i32⟩
  | 124 => ⟨S20000x27, .i32⟩
  | 125 => ⟨S20000x27, .i32⟩
  | 126 => ⟨S20000x27x1, .i32⟩
  | 127 => ⟨S20000x27x64, .f32⟩
  | _ => ⟨S20000x4, .i32⟩

abbrev hbmTy0_1 (i : Nat) : BufTy := match i % 128 with
  | 0 => ⟨S_, .i32⟩
  | 1 => ⟨S20000x27, .i32⟩
  | 2 => ⟨S20000x27, .i1⟩
  | 3 => ⟨S_, .i32⟩
  | 4 => ⟨S20000x27, .i32⟩
  | 5 => ⟨S20000x27, .i32⟩
  | 6 => ⟨S20000x27, .i32⟩
  | 7 => ⟨S20000x27x1, .i32⟩
  | 8 => ⟨S20000x27x32, .f32⟩
  | 9 => ⟨S20000x64, .f32⟩
  | 10 => ⟨S20000x1x64, .f32⟩
  | 11 => ⟨S20000x27x64, .f32⟩
  | 12 => ⟨S_, .i32⟩
  | 13 => ⟨S20000x27, .i32⟩
  | 14 => ⟨S20000x27, .i1⟩
  | 15 => ⟨S_, .i32⟩
  | 16 => ⟨S20000x27, .i32⟩
  | 17 => ⟨S20000x27, .i32⟩
  | 18 => ⟨S20000x27, .i32⟩
  | 19 => ⟨S20000x27x1, .i32⟩
  | 20 => ⟨S20000x27x64, .f32⟩
  | 21 => ⟨S20000x27x64, .f32⟩
  | 22 => ⟨S20000x27x64, .f32⟩
  | 23 => ⟨S20000x1x27, .f32⟩
  | 24 => ⟨S_, .f32⟩
  | 25 => ⟨S20000x1x27, .f32⟩
  | 26 => ⟨S20000x1x27, .f32⟩
  | 27 => ⟨S20000x1x27, .i1⟩
  | 28 => ⟨S_, .f32⟩
  | 29 => ⟨S_, .f32⟩
  | 30 => ⟨S20000x1x27, .f32⟩
  | 31 => ⟨S20000x1x27, .f32⟩
  | 32 => ⟨S_, .f32⟩
  | 33 => ⟨S20000x1, .f32⟩
  | 34 => ⟨S_, .f32⟩
  | 35 => ⟨S20000x1, .f32⟩
  | 36 => ⟨S20000x1, .f32⟩
  | 37 => ⟨S20000x1x1, .f32⟩
  | 38 => ⟨S20000x1x27, .f32⟩
  | 39 => ⟨S20000x1x27, .f32⟩
  | 40 => ⟨S20000x1x27, .f32⟩
  | 41 => ⟨S_, .f32⟩
  | 42 => ⟨S20000x1, .f32⟩
  | 43 => ⟨S20000x1x1, .f32⟩
  | 44 => ⟨S20000x1x27, .f32⟩
  | 45 => ⟨S20000x1x27, .f32⟩
  | 46 => ⟨S20000x1x64, .f32⟩
  | 47 => ⟨S20000x64, .f32⟩
  | 48 => ⟨S20000x64, .f32⟩
  | 49 => ⟨S20000x64, .f32⟩
  | 50 => ⟨S20000x64, .f32⟩
  | 51 => ⟨S1x64, .f32⟩
  | 52 => ⟨S20000x64, .f32⟩
  | 53 => ⟨S20000x64, .f32⟩
  | 54 => ⟨S20000x13, .f32⟩
  | 55 => ⟨S1x13, .f32⟩
  | 56 => ⟨S20000x13, .f32⟩
  | 57 => ⟨S20000x13, .f32⟩
  | _ => ⟨S20000x4, .i32⟩

abbrev hbmTy (i : Nat) : BufTy := match i / 128 with
  | 0 => hbmTy0_0 i
  | 1 => hbmTy0_1 i
  | _ => ⟨S20000x4, .i32⟩

abbrev bufTy : (tb : Table) → Fin (tcTables nBuf tb) → BufTy
  | .hbm, ⟨i, _⟩ => hbmTy i
  | _, _ => ⟨S20000x4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_3 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_call0_cst : Ref sig .tc := ⟨.hbm, 46, rfl⟩
abbrev main_call0_v0 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_4 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_5 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_6 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_values : Ref sig .tc := ⟨.hbm, 73, rfl⟩
abbrev main_indices : Ref sig .tc := ⟨.hbm, 74, rfl⟩
abbrev main_c : Ref sig .tc := ⟨.hbm, 75, rfl⟩
abbrev main_v47 : Ref sig .tc := ⟨.hbm, 76, rfl⟩
abbrev main_v48 : Ref sig .tc := ⟨.hbm, 77, rfl⟩
abbrev main_c_7 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_8 : Ref sig .tc := ⟨.hbm, 89, rfl⟩
abbrev main_v59 : Ref sig .tc := ⟨.hbm, 90, rfl⟩
abbrev main_cst_9 : Ref sig .tc := ⟨.hbm, 91, rfl⟩
abbrev main_v60 : Ref sig .tc := ⟨.hbm, 92, rfl⟩
abbrev main_v61 : Ref sig .tc := ⟨.hbm, 93, rfl⟩
abbrev main_c_10 : Ref sig .tc := ⟨.hbm, 94, rfl⟩
abbrev main_v62 : Ref sig .tc := ⟨.hbm, 95, rfl⟩
abbrev main_v63 : Ref sig .tc := ⟨.hbm, 96, rfl⟩
abbrev main_c_11 : Ref sig .tc := ⟨.hbm, 97, rfl⟩
abbrev main_c_12 : Ref sig .tc := ⟨.hbm, 98, rfl⟩
abbrev main_call1_v0 : Ref sig .tc := ⟨.hbm, 99, rfl⟩
abbrev main_call1_v1 : Ref sig .tc := ⟨.hbm, 100, rfl⟩
abbrev main_call1_v2 : Ref sig .tc := ⟨.hbm, 101, rfl⟩
abbrev main_call1_v3 : Ref sig .tc := ⟨.hbm, 102, rfl⟩
abbrev main_call1_v4 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_c_13 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_c_14 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_c_15 : Ref sig .tc := ⟨.hbm, 119, rfl⟩
abbrev main_v77 : Ref sig .tc := ⟨.hbm, 120, rfl⟩
abbrev main_v78 : Ref sig .tc := ⟨.hbm, 121, rfl⟩
abbrev main_c_16 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_c_17 : Ref sig .tc := ⟨.hbm, 128, rfl⟩
abbrev main_v84 : Ref sig .tc := ⟨.hbm, 129, rfl⟩
abbrev main_v85 : Ref sig .tc := ⟨.hbm, 130, rfl⟩
abbrev main_c_18 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_c_19 : Ref sig .tc := ⟨.hbm, 140, rfl⟩
abbrev main_v94 : Ref sig .tc := ⟨.hbm, 141, rfl⟩
abbrev main_v95 : Ref sig .tc := ⟨.hbm, 142, rfl⟩
abbrev main_c_20 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_cst_21 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_cst_22 : Ref sig .tc := ⟨.hbm, 156, rfl⟩
abbrev main_call2_v0 : Ref sig .tc := ⟨.hbm, 157, rfl⟩
abbrev main_call2_v1 : Ref sig .tc := ⟨.hbm, 158, rfl⟩
abbrev main_v107 : Ref sig .tc := ⟨.hbm, 159, rfl⟩
abbrev main_cst_23 : Ref sig .tc := ⟨.hbm, 160, rfl⟩
abbrev main_v108 : Ref sig .tc := ⟨.hbm, 161, rfl⟩
abbrev main_cst_24 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_cst_25 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩

abbrev nD : Nat := 1
abbrev τ : Topo := Topo.v7x

variable {F : FTy → Type} [FloatOps F]
-- ==== Proof.Dense.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.VecWindow
public import Idealize.ShloMosaic.Lib.Tactic
public import Idealize.ShloMosaic.Lib.Exec
public import Idealize.ShloMosaic.Lib.Pipeline.Kit

/-! The dense region: what its body leaves in the five result blocks, as functions of the ten input
blocks; the region's data and the obligation that the body meets them at every grid point. -/

set_option maxRecDepth 16384

@[expose] public section

noncomputable section

namespace Cert.Dense

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {U : Type} [URA U]

local notation "𝕄" => MT nD τ sig Unit (Elt F) ℕ U ℕ

set_option maxHeartbeats 2000000 in
/-- From ten input blocks held whole the body runs to its end, leaving them as they were and each
result block at its payload. -/
theorem run (c : Dev nD) (i : grid0.Coords) (arg1 : Memref sig .tc .vmem S2000x32 .f32) (harg1 : arg1.IsWhole) (arg2 : Memref sig .tc .vmem S2000x32 .f32) (harg2 : arg2.IsWhole) (arg3 : Memref sig .tc .vmem S32x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x1 .f32) (harg6 : arg6.IsWhole) (arg7 : Memref sig .tc .vmem S1x1 .f32) (harg7 : arg7.IsWhole) (arg8 : Memref sig .tc .vmem S64x64 .f32) (harg8 : arg8.IsWhole) (arg9 : Memref sig .tc .vmem S64x64 .f32) (harg9 : arg9.IsWhole) (arg10 : Memref sig .tc .vmem S32x64 .f32) (harg10 : arg10.IsWhole) (arg11 : Memref sig .tc .vmem S2000x64 .f32) (harg11 : arg11.IsWhole) (arg12 : Memref sig .tc .vmem S2000x1 .f32) (harg12 : arg12.IsWhole) (arg13 : Memref sig .tc .vmem S2000x64 .f32) (harg13 : arg13.IsWhole) (arg14 : Memref sig .tc .vmem S2000x64 .f32) (harg14 : arg14.IsWhole) (arg15 : Memref sig .tc .vmem S2000x64 .f32) (harg15 : arg15.IsWhole) (x0 : Vec F S2000x32 .f32) (x1 : Vec F S2000x32 .f32) (x2 : Vec F S32x64 .f32) (x3 : Vec F S1x64 .f32) (x4 : Vec F S1x64 .f32) (x5 : Vec F S64x1 .f32) (x6 : Vec F S1x1 .f32) (x7 : Vec F S64x64 .f32) (x8 : Vec F S64x64 .f32) (x9 : Vec F S32x64 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (k0_pay5 x0 x2 x3 x4) ∗ owns (c : Thread nD τ) arg12 fullShare (k0_pay1 (k0_pay6 x0 x2 x3 x4 x5) (k0_pay7 x6)) ∗ owns (c : Thread nD τ) arg13 fullShare (k0_pay2 (k0_pay5 x0 x2 x3 x4) x7) ∗ owns (c : Thread nD τ) arg14 fullShare (k0_pay3 (k0_pay5 x0 x2 x3 x4) x8) ∗ owns (c : Thread nD τ) arg15 fullShare (k0_pay4 x1 x9)) -∗ K ⟨⟩))
      ⊢ wp frame (wpE (defs₀ (F := F)) Variants.none c none) E (cc0__dense_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__dense_body_eq_skeleton]; unfold cc0__dense_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
  have e0 : ∀ inb, arg1.view.readAt (Elt F) (Rect.unit ![0, 0] ![2000, 32] inb).toLoadRect (harg1.unread x0) = x0 := fun inb => (View.readAt_full _ _ _).trans (harg1.read_unread x0)
  have e1 : ∀ inb, arg2.view.readAt (Elt F) (Rect.unit ![0, 0] ![2000, 32] inb).toLoadRect (harg2.unread x1) = x1 := fun inb => (View.readAt_full _ _ _).trans (harg2.read_unread x1)
  have e2 : ∀ inb, arg3.view.readAt (Elt F) (Rect.unit ![0, 0] ![32, 64] inb).toLoadRect (harg3.unread x2) = x2 := fun inb => (View.readAt_full _ _ _).trans (harg3.read_unread x2)
  have e3 : ∀ inb, arg4.view.readAt (Elt F) (Rect.unit ![0, 0] ![1, 64] inb).toLoadRect (harg4.unread x3) = x3 := fun inb => (View.readAt_full _ _ _).trans (harg4.read_unread x3)
  have e4 : ∀ inb, arg5.view.readAt (Elt F) (Rect.unit ![0, 0] ![1, 64] inb).toLoadRect (harg5.unread x4) = x4 := fun inb => (View.readAt_full _ _ _).trans (harg5.read_unread x4)
  have e5 : ∀ inb, arg6.view.readAt (Elt F) (Rect.unit ![0, 0] ![64, 1] inb).toLoadRect (harg6.unread x5) = x5 := fun inb => (View.readAt_full _ _ _).trans (harg6.read_unread x5)
  have e6 : ∀ inb, arg7.view.readAt (Elt F) (Rect.unit ![0, 0] ![1, 1] inb).toLoadRect (harg7.unread x6) = x6 := fun inb => (View.readAt_full _ _ _).trans (harg7.read_unread x6)
  have e7 : ∀ inb, arg8.view.readAt (Elt F) (Rect.unit ![0, 0] ![64, 64] inb).toLoadRect (harg8.unread x7) = x7 := fun inb => (View.readAt_full _ _ _).trans (harg8.read_unread x7)
  have e8 : ∀ inb, arg9.view.readAt (Elt F) (Rect.unit ![0, 0] ![64, 64] inb).toLoadRect (harg9.unread x8) = x8 := fun inb => (View.readAt_full _ _ _).trans (harg9.read_unread x8)
  have e9 : ∀ inb, arg10.view.readAt (Elt F) (Rect.unit ![0, 0] ![32, 64] inb).toLoadRect (harg10.unread x9) = x9 := fun inb => (View.readAt_full _ _ _).trans (harg10.read_unread x9)
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; swap; · iexact H10
    ipureintro; rw [View.read_writes_full]
  isplitl [H11]
  · iexists _; isplitr; swap; · iexact H11
    ipureintro; rw [View.read_writes_full]
  isplitl [H12]
  · iexists _; isplitr; swap; · iexact H12
    ipureintro; rw [View.read_writes_full]
  isplitl [H13]
  · iexists _; isplitr; swap; · iexact H13
    ipureintro; rw [View.read_writes_full]
  · iexists _; isplitr; swap; · iexact H14
    ipureintro; rw [View.read_writes_full]

variable (V : (c : Dev nD) → (b : Ref sig .tc) → Buf (Elt F) ((c : Thread nD τ).loc b))

/-- Window `w`'s block at point `t`, of the array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The region's data: arrays as found, inputs' blocks left alone, results' at the payloads. -/
def dat (c : Dev nD) : Dat τ (Elt F) Unit ℕ U ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => (k0_pay5 (iblk V c 0 t) (iblk V c 2 t) (iblk V c 3 t) (iblk V c 4 t))
    | ⟨11, _⟩ => (k0_pay1 (k0_pay6 (iblk V c 0 t) (iblk V c 2 t) (iblk V c 3 t) (iblk V c 4 t) (iblk V c 5 t)) (k0_pay7 (iblk V c 6 t)))
    | ⟨12, _⟩ => (k0_pay2 (k0_pay5 (iblk V c 0 t) (iblk V c 2 t) (iblk V c 3 t) (iblk V c 4 t)) (iblk V c 7 t))
    | ⟨13, _⟩ => (k0_pay3 (k0_pay5 (iblk V c 0 t) (iblk V c 2 t) (iblk V c 3 t) (iblk V c 4 t)) (iblk V c 8 t))
    | ⟨14, _⟩ => (k0_pay4 (iblk V c 1 t) (iblk V c 9 t))
  Φ _ := Pipeline.scopedRest (Ix := Unit) (Name := ℕ) (U := U) (Lvl := ℕ) (Val := Elt F) spec0 c
  q _ := fullShare
  owed _ := 0

/-- An input window's buffer holds its block when the body runs, fetched at this point or before. -/
theorem before_in (c : Dev nD) (w : Fin cfg0.W) (hw : w.1 < 10) (t : Fin cfg0.N) (d) : (dat (U := U) V c).before w t d = ((dat (U := U) V c).fetched w t d) := by
  obtain ⟨_ | _ | _ | _ | _ | _ | _ | _ | _ | _ | w, hw'⟩ := w
  case succ => exact absurd hw (by simp)
  all_goals exact (dat (U := U) V c).before_in_eq_fetched _ rfl (fun _ => rfl) (fun _ _ _ => rfl) (fun _ => rfl) t d

set_option maxHeartbeats 2000000 in
/-- At every point the body meets the region's data. -/
theorem body_obligation (c : Dev nD) : BodyObligation (dat (U := U) V c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  rw [show (dat (U := U) V c).Φ t.succ = (dat (U := U) V c).Φ t.castSucc from rfl,
    show (dat (U := U) V c).owesAt () t.succ = (dat (U := U) V c).owesAt () t.castSucc from rfl]
  have hb : ∀ (w : Fin cfg0.W) (hw : w.1 < 10) d, (dat (U := U) V c).before w t d = (dat (U := U) V c).fetched w t d := fun w hw d => before_in V c w hw t d
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  rw [hb 0 (by decide), hb 1 (by decide), hb 2 (by decide), hb 3 (by decide), hb 4 (by decide), hb 5 (by decide), hb 6 (by decide), hb 7 (by decide), hb 8 (by decide), hb 9 (by decide)]
  unfold bodyAt0
  iapply (run c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) _ (hstage0_13 ((cfg0.slots t 13).cast nbuf0_13)) _ (hstage0_14 ((cfg0.slots t 14).cast nbuf0_14)) (iblk V c 0 t) (iblk V c 1 t) (iblk V c 2 t) (iblk V c 3 t) (iblk V c 4 t) (iblk V c 5 t) (iblk V c 6 t) (iblk V c 7 t) (iblk V c 8 t) (iblk V c 9 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

end Cert.Dense
-- ==== Proof.KnnFn.lean ====
module

public import proofs.«01_k».proof.Proof.Gen.KernelIdeal.Skeleton
public import Idealize.ShloMosaic.Lib.Tactic

/-! The nearest-neighbour body as functions of its 160 × 20480 array of keys: the five running lane
minima, the picks from the candidates, the picks from all keys; and the printed body
as these functions. -/

set_option maxRecDepth 65536

@[expose] public section

noncomputable section

namespace Cert.Knn

open Cert.KernelIdeal Cert.KernelIdeal.Gen Idealize.ShloMosaic Idealize.SL.Sem

/-- Any 128 adjacent columns starting at a multiple of 128 lie inside the key array. -/
theorem slices_at (k : Fin 160) : S160x20480.Slices ![0, 128 * k.1] S160x128 := by
  refine ⟨rfl, ?_⟩
  intro a
  fin_cases a
  · simp
  · have := k.2
    simp
    omega

/-- Columns `128 k … 128 k + 127` of the keys. -/
def sl (x : IVec S160x20480 32) (k : ℕ) : IVec S160x128 32 :=
  extractStridedSlice S160x128 ![0, 128 * (Fin.ofNat 160 k).1] x (slices_at (Fin.ofNat 160 k))

/-- Five arrays of lane minima. -/
structure Lv where
  a : IVec S160x128 32
  b : IVec S160x128 32
  c : IVec S160x128 32
  d : IVec S160x128 32
  e : IVec S160x128 32

/-- The first five slices put in order by four rounds of exchanges. -/
def lev0 (x : IVec S160x20480 32) : Lv :=
  let a1 := minsi (sl x 0) (sl x 1)
  let r1 := maxsi (sl x 0) (sl x 1)
  let b1 := minsi r1 (sl x 2)
  let r2 := maxsi r1 (sl x 2)
  let c1 := minsi r2 (sl x 3)
  let r3 := maxsi r2 (sl x 3)
  let d1 := minsi r3 (sl x 4)
  let e1 := maxsi r3 (sl x 4)
  let a2 := minsi a1 b1
  let s1 := maxsi a1 b1
  let b2 := minsi s1 c1
  let s2 := maxsi s1 c1
  let c2 := minsi s2 d1
  let d2 := maxsi s2 d1
  let a3 := minsi a2 b2
  let t1 := maxsi a2 b2
  let b3 := minsi t1 c2
  let c3 := maxsi t1 c2
  ⟨minsi a3 b3, maxsi a3 b3, c3, d2, e1⟩

/-- One more slice pushed through the five minima. -/
def step (L : Lv) (v : IVec S160x128 32) : Lv :=
  let v1 := maxsi L.a v
  let v2 := maxsi L.b v1
  let v3 := maxsi L.c v2
  let v4 := maxsi L.d v3
  ⟨minsi L.a v, minsi L.b v1, minsi L.c v2, minsi L.d v3, minsi L.e v4⟩

/-- The five minima after the first `n + 5` slices. -/
def lev (x : IVec S160x20480 32) : ℕ → Lv
  | 0 => lev0 x
  | n + 1 => step (lev x n) (sl x (n + 5))

/-- The 640 candidates of a row: the five minima of every lane. -/
def cands (L : Lv) : IVec S160x640 32 :=
  concatenate S160x640 1 [⟨S160x128, L.a⟩, ⟨S160x128, L.b⟩, ⟨S160x128, L.c⟩, ⟨S160x128, L.d⟩, ⟨S160x128, L.e⟩] concatenates_S160x128_S160x128_S160x128_S160x128_S160x128_S160x640_d1

/-- The least, in signed order, of the candidates less `p`. -/
def redF (x : IVec S160x640 32) (p : IVec S160x1 32) : IVec S160 32 :=
  multiReductionI .minsi [1] S160 (subi x (broadcastTo S160x640 p broadcasts_S160x1_S160x640)) 2147483647#32 reduces_S160x640_S160 rfl

/-- The least, in signed order, of all the keys less `p`. -/
def redS (x : IVec S160x20480 32) (p : IVec S160x1 32) : IVec S160 32 :=
  multiReductionI .minsi [1] S160 (subi x (broadcastTo S160x20480 p broadcasts_S160x1_S160x20480)) 2147483647#32 reduces_S160x20480_S160 rfl

/-- A pick from the least difference `r` and the bound `p`. -/
def pick (r : IVec S160 32) (p : IVec S160x1 32) : IVec S160x1 32 :=
  addi (addi (shapeCast S160x1 r shapeCasts_S160_S160x1) (broadcast S160x1 2147483648#32)) p

/-- The bound after a pick. -/
def nxt (o : IVec S160x1 32) : IVec S160x1 32 := addi o (broadcast S160x1 1#32)

/-- The bounds of the picks from the candidates. -/
def pF (x : IVec S160x640 32) : ℕ → IVec S160x1 32
  | 0 => broadcast S160x1 0#32
  | n + 1 => nxt (pick (redF x (pF x n)) (pF x n))

/-- The picks from the candidates. -/
def oF (x : IVec S160x640 32) (n : ℕ) : IVec S160x1 32 := pick (redF x (pF x n)) (pF x n)

/-- The bounds of the picks from all keys. -/
def pS (x : IVec S160x20480 32) : ℕ → IVec S160x1 32
  | 0 => broadcast S160x1 0#32
  | n + 1 => nxt (pick (redS x (pS x n)) (pS x n))

/-- The picks from all keys. -/
def oS (x : IVec S160x20480 32) (n : ℕ) : IVec S160x1 32 := pick (redS x (pS x n)) (pS x n)

/-- Twenty-seven columns side by side. -/
def row27 (f : ℕ → IVec S160x1 32) : IVec S160x27 32 :=
  concatenate S160x27 1 [⟨S160x1, f 0⟩, ⟨S160x1, f 1⟩, ⟨S160x1, f 2⟩, ⟨S160x1, f 3⟩, ⟨S160x1, f 4⟩, ⟨S160x1, f 5⟩, ⟨S160x1, f 6⟩, ⟨S160x1, f 7⟩, ⟨S160x1, f 8⟩, ⟨S160x1, f 9⟩, ⟨S160x1, f 10⟩, ⟨S160x1, f 11⟩, ⟨S160x1, f 12⟩, ⟨S160x1, f 13⟩, ⟨S160x1, f 14⟩, ⟨S160x1, f 15⟩, ⟨S160x1, f 16⟩, ⟨S160x1, f 17⟩, ⟨S160x1, f 18⟩, ⟨S160x1, f 19⟩, ⟨S160x1, f 20⟩, ⟨S160x1, f 21⟩, ⟨S160x1, f 22⟩, ⟨S160x1, f 23⟩, ⟨S160x1, f 24⟩, ⟨S160x1, f 25⟩, ⟨S160x1, f 26⟩] concatenates_S160x1_S160x1_S160x1_S160x1_S160x1_S160x1_S160x1_S160x1_S160x1_S160x1_S160x1_S160x1_S160x1_S160x1_S160x1_S160x1_S160x1_S160x1_S160x1_S160x1_S160x1_S160x1_S160x1_S160x1_S160x1_S160x1_S160x1_S160x27_d1

variable {F : FTy → Type} [FloatOps F]

/-- Whether some lane's fifth minimum is not above the last pick, as the body computes it. -/
def sus (L : Lv) : BitVec 1 :=
  Scalar.cmpf .ogt (k1_pay1455 (F := F) L.e (oF (cands L) 26) (broadcast S160x1 2147483648#32)) (Scalar.ofBits .f32 0x00000000#32)

/-- The body in short: the keys from the four inputs, then the picks from the candidates where no lane
is suspect and the picks from all keys where one is. -/
def knnShort (F : FTy → Type) [FloatOps F] (i : grid1.Coords) (a1 : Memref sig .tc .vmem S160x3 .i8) (h1 : a1.IsWhole) (a2 : Memref sig .tc .vmem S3x20480 .i8) (h2 : a2.IsWhole) (a3 : Memref sig .tc .vmem S160x1 .i32) (h3 : a3.IsWhole) (a4 : Memref sig .tc .vmem S1x20480 .i32) (h4 : a4.IsWhole) (a5 : Memref sig .tc .vmem S160x27 .i32) (h5 : a5.IsWhole) : Prog (TpuEff nD τ sig (Elt F) Λ₀ .tc) PUnit := do
  let v0 : Vec F S160x3 .i8 ← Prog.lift (.load a1 (Rect.unit (s := S160x3) ![0, 0] S160x3.size inb_S160x3_S160x3_0_0).toLoadRect (View.loadsAt_vmem h_S160x3))
  let v2 : Vec F S3x20480 .i8 ← Prog.lift (.load a2 (Rect.unit (s := S3x20480) ![0, 0] S3x20480.size inb_S3x20480_S3x20480_0_0).toLoadRect (View.loadsAt_vmem h_S3x20480))
  let v5 : Vec F S160x1 .i32 ← Prog.lift (.load a3 (Rect.unit (s := S160x1) ![0, 0] S160x1.size inb_S160x1_S160x1_0_0).toLoadRect (View.loadsAt_vmem h_S160x1))
  let v7 : Vec F S1x20480 .i32 ← Prog.lift (.load a4 (Rect.unit (s := S1x20480) ![0, 0] S1x20480.size inb_S1x20480_S1x20480_0_0).toLoadRect (View.loadsAt_vmem h_S1x20480))
  if Scalar.cmpi .ne (Scalar.extui (Scalar.xori (sus (F := F) (lev (k1_pay83 v0 v2 v5 v7) 155)) 1#1) : BitVec 32) 0#32 = 1#1 then do
    let _o : Vec F S160x27 .i32 ← Prog.lift (.load a5 (Rect.unit (s := S160x27) ![0, 0] S160x27.size inb_S160x27_S160x27_0_0).toLoadRect (View.loadsAt_vmem h_S160x27))
    Prog.lift (.store a5 (Rect.unit (s := S160x27) ![0, 0] S160x27.size inb_S160x27_S160x27_0_0) (row27 (oF (cands (lev (k1_pay83 v0 v2 v5 v7) 155)))) Finset.univ (View.stores_vmem_bits_univ h_S160x27 rfl) (.inl rfl))
    pure ⟨⟩
  else do
    pure ⟨⟩
  if Scalar.cmpi .ne (Scalar.extui (sus (F := F) (lev (k1_pay83 v0 v2 v5 v7) 155)) : BitVec 32) 0#32 = 1#1 then do
    let _o : Vec F S160x27 .i32 ← Prog.lift (.load a5 (Rect.unit (s := S160x27) ![0, 0] S160x27.size inb_S160x27_S160x27_0_0).toLoadRect (View.loadsAt_vmem h_S160x27))
    Prog.lift (.store a5 (Rect.unit (s := S160x27) ![0, 0] S160x27.size inb_S160x27_S160x27_0_0) (row27 (oS (k1_pay83 v0 v2 v5 v7))) Finset.univ (View.stores_vmem_bits_univ h_S160x27 rfl) (.inl rfl))
    pure ⟨⟩
  else do
    pure ⟨⟩
  pure ⟨⟩

/-- The printed body is the short one. -/
theorem knn_short : cc1__knn_body (F := F) = fun i a1 h1 a2 h2 a3 h3 a4 h4 a5 h5 => knnShort F i a1 h1 a2 h2 a3 h3 a4 h4 a5 h5 >>= fun _ => pure ⟨⟩ := by sl_kernel_rfl

end Cert.Knn
-- ==== Proof.KnnBody.lean ====
module

public import proofs.«01_k».proof.Proof.KnnFn
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.VecWindow
public import Idealize.ShloMosaic.Lib.Exec
public import Idealize.ShloMosaic.Lib.Pipeline.Kit

/-! The nearest-neighbour region: what its body leaves in the block of 27 keys a row, as a function of
the four input blocks; the region's data and the obligation that the body meets them at every point. -/

set_option maxRecDepth 16384

@[expose] public section

noncomputable section

namespace Cert.Knn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {U : Type} [URA U]

local notation "𝕄" => MT nD τ sig Unit (Elt F) ℕ U ℕ

/-- The 27 keys a row that the body stores: the picks from all keys where some lane is suspect, the
picks from the candidates where none is. -/
def knnOut (x0 : Vec F S160x3 .i8) (x1 : Vec F S3x20480 .i8) (x2 : Vec F S160x1 .i32) (x3 : Vec F S1x20480 .i32) : Vec F S160x27 .i32 :=
  if sus (F := F) (lev (k1_pay83 x0 x1 x2 x3) 155) = 1#1 then row27 (oS (k1_pay83 x0 x1 x2 x3))
  else row27 (oF (cands (lev (k1_pay83 x0 x1 x2 x3) 155)))

/-- A one-bit word that is not one is zero. -/
theorem bit_zero {b : BitVec 1} (h : ¬ b = 1#1) : b = 0#1 := by
  revert b; decide

set_option maxHeartbeats 2000000 in
/-- From four input blocks held whole the body runs to its end, leaving them as they were and the
result block at the 27 keys. -/
theorem run (c : Dev nD) (i : grid1.Coords) (a1 : Memref sig .tc .vmem S160x3 .i8) (h1 : a1.IsWhole) (a2 : Memref sig .tc .vmem S3x20480 .i8) (h2 : a2.IsWhole) (a3 : Memref sig .tc .vmem S160x1 .i32) (h3 : a3.IsWhole) (a4 : Memref sig .tc .vmem S1x20480 .i32) (h4 : a4.IsWhole) (a5 : Memref sig .tc .vmem S160x27 .i32) (h5 : a5.IsWhole)
    (x0 : Vec F S160x3 .i8) (x1 : Vec F S3x20480 .i8) (x2 : Vec F S160x1 .i32) (x3 : Vec F S1x20480 .i32) (E : Set ℕ) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3
        ∗ (∃ d, owns (c : Thread nD τ) a5 fullShare d)
        ∗ (iprop(owns (c : Thread nD τ) a1 fullShare x0 ∗ owns (c : Thread nD τ) a2 fullShare x1 ∗ owns (c : Thread nD τ) a3 fullShare x2 ∗ owns (c : Thread nD τ) a4 fullShare x3
            ∗ owns (c : Thread nD τ) a5 fullShare (knnOut x0 x1 x2 x3)) -∗ K ⟨⟩))
      ⊢ wp frame (wpE (defs₀ (F := F)) Variants.none c none) E (cc1__knn_body i a1 h1 a2 h2 a3 h3 a4 h4 a5 h5) K := by
  rw [knn_short]
  dsimp only
  unfold knnShort owns
  iintro ⟨⟨%f0, %hf0, H0⟩, ⟨%f1, %hf1, H1⟩, ⟨%f2, %hf2, H2⟩, ⟨%f3, %hf3, H3⟩, ⟨%d4, %f4, -, H4⟩, Hk⟩
  obtain rfl := h1.eq_unread hf0; obtain rfl := h2.eq_unread hf1; obtain rfl := h3.eq_unread hf2; obtain rfl := h4.eq_unread hf3
  have e0 : ∀ inb, a1.view.readAt (Elt F) (Rect.unit ![0, 0] ![160, 3] inb).toLoadRect (h1.unread x0) = x0 := fun inb => (View.readAt_full _ _ _).trans (h1.read_unread x0)
  have e1 : ∀ inb, a2.view.readAt (Elt F) (Rect.unit ![0, 0] ![3, 20480] inb).toLoadRect (h2.unread x1) = x1 := fun inb => (View.readAt_full _ _ _).trans (h2.read_unread x1)
  have e2 : ∀ inb, a3.view.readAt (Elt F) (Rect.unit ![0, 0] ![160, 1] inb).toLoadRect (h3.unread x2) = x2 := fun inb => (View.readAt_full _ _ _).trans (h3.read_unread x2)
  have e3 : ∀ inb, a4.view.readAt (Elt F) (Rect.unit ![0, 0] ![1, 20480] inb).toLoadRect (h4.unread x3) = x3 := fun inb => (View.readAt_full _ _ _).trans (h4.read_unread x3)
  sl_exec
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; · ipureintro; exact h3.read_unread _
    iexact H2
  isplitl [H3]
  · iexists _; isplitr; · ipureintro; exact h4.read_unread _
    iexact H3
  iexists _; isplitr; swap; · iexact H4
  ipureintro
  unfold knnOut
  by_cases hs : sus (F := F) (lev (k1_pay83 x0 x1 x2 x3) 155) = 1#1
  · rw [if_pos hs, dif_pos (by rw [hs]; decide), View.read_writes_full]
  · rw [if_neg hs, dif_neg (by rw [bit_zero hs]; decide), dif_pos (by rw [bit_zero hs]; decide), View.read_writes_full]

variable (V : (c : Dev nD) → (b : Ref sig .tc) → Buf (Elt F) ((c : Thread nD τ).loc b))

/-- Window `w`'s block at point `t`, of the array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The region's data: arrays as found, inputs' blocks left alone, the result's at the 27 keys. -/
def dat (c : Dev nD) : Dat τ (Elt F) Unit ℕ U ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => knnOut (F := F) (iblk V c 0 t) (iblk V c 1 t) (iblk V c 2 t) (iblk V c 3 t)
  Φ _ := Pipeline.scopedRest (Ix := Unit) (Name := ℕ) (U := U) (Lvl := ℕ) (Val := Elt F) spec1 c
  q _ := fullShare
  owed _ := 0

/-- An input window's buffer holds its block when the body runs, fetched at this point or before. -/
theorem before_in (c : Dev nD) (w : Fin cfg1.W) (hw : w.1 < 4) (t : Fin cfg1.N) (d) : (dat (U := U) V c).before w t d = ((dat (U := U) V c).fetched w t d) := by
  obtain ⟨_ | _ | _ | _ | w, hw'⟩ := w
  case succ => exact absurd hw (by simp)
  all_goals exact (dat (U := U) V c).before_in_eq_fetched _ rfl (fun _ => rfl) (fun _ _ _ => rfl) (fun _ => rfl) t d

/-- At every point the body meets the region's data. -/
theorem body_obligation (c : Dev nD) : BodyObligation (dat (U := U) V c) (defs₀ (F := F)) Variants.none () Set.univ := fun t => by
  rw [bigSep_W1, bigSep_W1, show defs₀ (F := F) .tc cfg1.body (cfg1.bodyArgs t (cfg1.slots t)) = bodyAt1 t by unfold defs₀; rw [Defs.onTc_tc]]
  rw [show (dat (U := U) V c).Φ t.succ = (dat (U := U) V c).Φ t.castSucc from rfl,
    show (dat (U := U) V c).owesAt () t.succ = (dat (U := U) V c).owesAt () t.castSucc from rfl]
  have hb : ∀ (w : Fin cfg1.W) (hw : w.1 < 4) d, (dat (U := U) V c).before w t d = (dat (U := U) V c).fetched w t d := fun w hw d => before_in V c w hw t d
  iintro ⟨HΦ, Ho, ⟨%d0, H0⟩, ⟨%d1, H1⟩, ⟨%d2, H2⟩, ⟨%d3, H3⟩, ⟨%d4, H4⟩⟩
  rw [hb 0 (by decide), hb 1 (by decide), hb 2 (by decide), hb 3 (by decide)]
  unfold bodyAt1
  iapply (run c (grid1.coords t) _ (hstage1_0 ((cfg1.slots t 0).cast nbuf1_0)) _ (hstage1_1 ((cfg1.slots t 1).cast nbuf1_1)) _ (hstage1_2 ((cfg1.slots t 2).cast nbuf1_2)) _ (hstage1_3 ((cfg1.slots t 3).cast nbuf1_3)) _ (hstage1_4 ((cfg1.slots t 4).cast nbuf1_4)) (iblk V c 0 t) (iblk V c 1 t) (iblk V c 2 t) (iblk V c 3 t) Set.univ _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

end Cert.Knn
-- ==== Proof.Run.lean ====
module

public import proofs.«01_k».proof.Proof.Dense
public import proofs.«01_k».proof.Proof.KnnBody
public import Idealize.ShloMosaic.Lib.Pipeline.RegionsLoop
public import proofs.«01_k».proof.Proof.Gen.KernelIdeal.Regions

/-! # The run of the whole program

From any memory the program ends, and the buffers hold what its straight-line segments and its two
regions make of that memory one after the other. Stated over any float values, so that the frame of
either kernel program follows. -/

set_option maxRecDepth 16384

@[expose] public section

noncomputable section

namespace Cert.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

/-- The pipelines' rounds, and a second factor that nothing uses. -/
abbrev UU := UR sig nD τ × Counters
local notation "𝕄" => MT nD τ sig Unit (Elt F) ℕ UU ℕ

/-- The rounds' embedding. -/
abbrev EP : Emb (UR sig nD τ) (MT nD τ sig Unit (Elt F) ℕ UU ℕ) := embL

/-- A valuation of every buffer of every core. -/
abbrev Val (F : FTy → Type) [FloatOps F] := (c : Dev nD) → (b : Ref sig .tc) → Buf (Elt F) ((c : Thread nD τ).loc b)

variable (m : (l : Loc nD τ sig) → Buf (Elt F) l)

/-- The buffers as the dense region finds them. -/
def VA : Val F := fun c b => V1 m c b

/-- The dense region's five results, written over the buffers it found. -/
def W1 (c : Dev nD) : Valuation τ sig (Elt F) :=
  Function.update (Function.update (Function.update (Function.update (Function.update (V1 m c) main_v3_0 ((Dense.dat (U := UU) (VA m) c).arrAt 10 cfg0.N)) main_v3_1 ((Dense.dat (U := UU) (VA m) c).arrAt 11 cfg0.N)) main_v3_2 ((Dense.dat (U := UU) (VA m) c).arrAt 12 cfg0.N)) main_v3_3 ((Dense.dat (U := UU) (VA m) c).arrAt 13 cfg0.N)) main_v3_4 ((Dense.dat (U := UU) (VA m) c).arrAt 14 cfg0.N)

/-- What the first region leaves, the second's part not yet filled in. -/
def outs0 : Outs (F := F) := fun _ r c => W1 m c r

/-- The buffers as the neighbour region finds them. -/
def VB : Val F := fun c b => V3 m (outs0 m) c b

/-- What the two regions leave. -/
def outs : Outs (F := F) := fun k r c => match k with
  | 2 => W1 m c r
  | _ => Function.update (V3 m (outs0 m) c) main_v15 ((Knn.dat (U := UU) (VB m) c).arrAt 4 cfg1.N) r

/-- The two regions' data. -/
def pdats : (p : Fin 2) → (c : Dev nD) → Dat τ (Elt F) Unit ℕ UU ℕ (cfgs p) c
  | ⟨0, _⟩ => fun c => Dense.dat (VA m) c
  | ⟨1, _⟩ => fun c => Knn.dat (VB m) c

/-- No core owes another anything. -/
abbrev L : GSem nD τ sig → Finset Unit := fun _ => ∅
/-- No levels are needed. -/
abbrev lv : GSem nD τ sig → Unit → ℕ := fun _ _ => 0

/-- What goes through the segments beside the buffers: the core owes nothing. -/
abbrev Ow (_ : Fin 3) (c : Dev nD) : sProp 𝕄 := iprop(∃ W, owes (c : Thread nD τ) (0 : CellTallies nD τ sig Unit) W)

/-- The buffers as the dense region leaves them. -/
def VA' : Val F := fun c b => V2 m (outs m) c b
/-- The buffers as the neighbour region leaves them. -/
def VB' : Val F := fun c b => V4 m (outs m) c b

/-- The first region finds what the first segment made of the memory. -/
theorem VA_eq (c : Dev nD) (b : Ref sig .tc) : VA m c b = V1 m c b := rfl

/-- The second region finds what the straight-line segment made of the first one's results. -/
theorem VB_eq (c : Dev nD) (b : Ref sig .tc) : VB m c b = V3 m (outs m) c b := by
  have h : V2 m (outs0 m) c = V2 m (outs m) c := rfl
  exact congrFun (congrArg (StableHlo.after hostOps1) h) (Proc.devRef .tc b)

/-- Result 0 of the dense region in the buffers it leaves. -/
theorem vp0_0 (c : Dev nD) : VA' m c main_v3_0 = (Dense.dat (U := UU) (VA m) c).arrAt 10 cfg0.N := by
  unfold VA'
  simp only [V2, outs, W1, Function.update_self, Function.update_of_ne (show (Proc.devRef .tc main_v3_0 : DevRef τ sig) ≠ Proc.devRef .tc main_v3_1 by decide), Function.update_of_ne (show (Proc.devRef .tc main_v3_0 : DevRef τ sig) ≠ Proc.devRef .tc main_v3_2 by decide), Function.update_of_ne (show (Proc.devRef .tc main_v3_0 : DevRef τ sig) ≠ Proc.devRef .tc main_v3_3 by decide), Function.update_of_ne (show (Proc.devRef .tc main_v3_0 : DevRef τ sig) ≠ Proc.devRef .tc main_v3_4 by decide)]

/-- Result 1 of the dense region in the buffers it leaves. -/
theorem vp0_1 (c : Dev nD) : VA' m c main_v3_1 = (Dense.dat (U := UU) (VA m) c).arrAt 11 cfg0.N := by
  unfold VA'
  simp only [V2, outs, W1, Function.update_self, Function.update_of_ne (show (Proc.devRef .tc main_v3_1 : DevRef τ sig) ≠ Proc.devRef .tc main_v3_2 by decide), Function.update_of_ne (show (Proc.devRef .tc main_v3_1 : DevRef τ sig) ≠ Proc.devRef .tc main_v3_3 by decide), Function.update_of_ne (show (Proc.devRef .tc main_v3_1 : DevRef τ sig) ≠ Proc.devRef .tc main_v3_4 by decide)]

/-- Result 2 of the dense region in the buffers it leaves. -/
theorem vp0_2 (c : Dev nD) : VA' m c main_v3_2 = (Dense.dat (U := UU) (VA m) c).arrAt 12 cfg0.N := by
  unfold VA'
  simp only [V2, outs, W1, Function.update_self, Function.update_of_ne (show (Proc.devRef .tc main_v3_2 : DevRef τ sig) ≠ Proc.devRef .tc main_v3_3 by decide), Function.update_of_ne (show (Proc.devRef .tc main_v3_2 : DevRef τ sig) ≠ Proc.devRef .tc main_v3_4 by decide)]

/-- Result 3 of the dense region in the buffers it leaves. -/
theorem vp0_3 (c : Dev nD) : VA' m c main_v3_3 = (Dense.dat (U := UU) (VA m) c).arrAt 13 cfg0.N := by
  unfold VA'
  simp only [V2, outs, W1, Function.update_self, Function.update_of_ne (show (Proc.devRef .tc main_v3_3 : DevRef τ sig) ≠ Proc.devRef .tc main_v3_4 by decide)]

/-- Result 4 of the dense region in the buffers it leaves. -/
theorem vp0_4 (c : Dev nD) : VA' m c main_v3_4 = (Dense.dat (U := UU) (VA m) c).arrAt 14 cfg0.N := by
  unfold VA'
  simp only [V2, outs, W1, Function.update_self]

/-- The result of the neighbour region in the buffers it leaves. -/
theorem vp1_0 (c : Dev nD) : VB' m c main_v15 = (Knn.dat (U := UU) (VB m) c).arrAt 4 cfg1.N := by
  unfold VB'
  simp only [V4, outs, Function.update_self]

set_option backward.isDefEq.respectTransparency.types false in
set_option maxHeartbeats 1000000 in
/-- The array of every window after region 0, as the next segment finds it. -/
theorem arr0 (c : Dev nD) (w : Fin cfg0.W) : (pdats m 0 c).arrAt w cfg0.N = VA' m c (Pipeline.arrRef spec0 w) := by
  exact match w with
  | ⟨0, _⟩ => ((pdats m 0 c).arrAt_in 0 rfl _).trans ((show (pdats m 0 c).A 0 = VA m c main_arg1 by sl_kernel_rfl).trans ((VA_eq m c main_arg1).trans (V2_of m (outs m) c main_arg1 (by decide)).symm))
  | ⟨1, _⟩ => ((pdats m 0 c).arrAt_in 1 rfl _).trans ((show (pdats m 0 c).A 1 = VA m c main_arg2 by sl_kernel_rfl).trans ((VA_eq m c main_arg2).trans (V2_of m (outs m) c main_arg2 (by decide)).symm))
  | ⟨2, _⟩ => ((pdats m 0 c).arrAt_in 2 rfl _).trans ((show (pdats m 0 c).A 2 = VA m c main_arg3 by sl_kernel_rfl).trans ((VA_eq m c main_arg3).trans (V2_of m (outs m) c main_arg3 (by decide)).symm))
  | ⟨3, _⟩ => ((pdats m 0 c).arrAt_in 3 rfl _).trans ((show (pdats m 0 c).A 3 = VA m c main_v0 by sl_kernel_rfl).trans ((VA_eq m c main_v0).trans (V2_of m (outs m) c main_v0 (by decide)).symm))
  | ⟨4, _⟩ => ((pdats m 0 c).arrAt_in 4 rfl _).trans ((show (pdats m 0 c).A 4 = VA m c main_v1 by sl_kernel_rfl).trans ((VA_eq m c main_v1).trans (V2_of m (outs m) c main_v1 (by decide)).symm))
  | ⟨5, _⟩ => ((pdats m 0 c).arrAt_in 5 rfl _).trans ((show (pdats m 0 c).A 5 = VA m c main_arg6 by sl_kernel_rfl).trans ((VA_eq m c main_arg6).trans (V2_of m (outs m) c main_arg6 (by decide)).symm))
  | ⟨6, _⟩ => ((pdats m 0 c).arrAt_in 6 rfl _).trans ((show (pdats m 0 c).A 6 = VA m c main_v2 by sl_kernel_rfl).trans ((VA_eq m c main_v2).trans (V2_of m (outs m) c main_v2 (by decide)).symm))
  | ⟨7, _⟩ => ((pdats m 0 c).arrAt_in 7 rfl _).trans ((show (pdats m 0 c).A 7 = VA m c main_arg8 by sl_kernel_rfl).trans ((VA_eq m c main_arg8).trans (V2_of m (outs m) c main_arg8 (by decide)).symm))
  | ⟨8, _⟩ => ((pdats m 0 c).arrAt_in 8 rfl _).trans ((show (pdats m 0 c).A 8 = VA m c main_arg9 by sl_kernel_rfl).trans ((VA_eq m c main_arg9).trans (V2_of m (outs m) c main_arg9 (by decide)).symm))
  | ⟨9, _⟩ => ((pdats m 0 c).arrAt_in 9 rfl _).trans ((show (pdats m 0 c).A 9 = VA m c main_arg10 by sl_kernel_rfl).trans ((VA_eq m c main_arg10).trans (V2_of m (outs m) c main_arg10 (by decide)).symm))
  | ⟨10, _⟩ => (vp0_0 m c).symm
  | ⟨11, _⟩ => (vp0_1 m c).symm
  | ⟨12, _⟩ => (vp0_2 m c).symm
  | ⟨13, _⟩ => (vp0_3 m c).symm
  | ⟨14, _⟩ => (vp0_4 m c).symm

set_option backward.isDefEq.respectTransparency.types false in
/-- Region 0 over the thread state: entered by taking its arrays out of the unscoped buffers, left by
putting them back. -/
def reg0 : RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (Dense.body_obligation (VA m) c).loose
  hwaits := Pipeline.hwaits_of_owed_zero _ _ _ _ L lv 0 fun _ _ => rfl
  pre c := iprop(unscopedBufs c (VA m c) ∗ ∃ W, owes (c : Thread nD τ) (0 : CellTallies nD τ sig Unit) W)
  post c := iprop(unscopedBufs c (VA' m c) ∗ ∃ W, owes (c : Thread nD τ) (0 : CellTallies nD τ sig Unit) W)
  X _ := BI.emp
  Y _ := BI.emp
  Z c := Pipeline.unscopedRest (Ix := Unit) (Name := ℕ) (U := UU) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = Pipeline.scopedRest (Ix := Unit) (Name := ℕ) (U := UU) (Lvl := ℕ) (Val := Elt F) spec0 c from rfl]
    iintro ⟨-, -, Hr⟩; iexact Hr
  hout c := by
    rw [Pipeline.ownSems0_none, show (pdats m 0 c).Φ (Fin.last _) = Pipeline.scopedRest (Ix := Unit) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := Unit) (Name := ℕ) (U := UU) (Lvl := ℕ) launch0.win launch0.arr_whole c
      (pdats m) ((pdats m 0 c).share_full fun _ => rfl) (VA m c) (VA' m c) ((pdats m 0 c).arrAt · cfg0.N) (arr0 m c)
      (fun b hb => (show VA' m c b = V2 m (outs m) c b from rfl).trans <| Eq.trans (b := V1 m c b) (V2_of m (outs m) c b fun h => hb (by
        simp only [List.mem_cons, List.not_mem_nil, or_false] at h
        rcases h with h | h | h | h | h <;> first | exact Finset.mem_image.mpr ⟨10, Finset.mem_univ _, h.symm⟩ | exact Finset.mem_image.mpr ⟨11, Finset.mem_univ _, h.symm⟩ | exact Finset.mem_image.mpr ⟨12, Finset.mem_univ _, h.symm⟩ | exact Finset.mem_image.mpr ⟨13, Finset.mem_univ _, h.symm⟩ | exact Finset.mem_image.mpr ⟨14, Finset.mem_univ _, h.symm⟩)) (VA_eq m c b).symm)
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
set_option maxHeartbeats 1000000 in
/-- The array of every window after region 1, as the next segment finds it. -/
theorem arr1 (c : Dev nD) (w : Fin cfg1.W) : (pdats m 1 c).arrAt w cfg1.N = VB' m c (Pipeline.arrRef spec1 w) := by
  exact match w with
  | ⟨0, _⟩ => ((pdats m 1 c).arrAt_in 0 rfl _).trans ((show (pdats m 1 c).A 0 = VB m c main_v5 by sl_kernel_rfl).trans ((VB_eq m c main_v5).trans (V4_of m (outs m) c main_v5 (by decide)).symm))
  | ⟨1, _⟩ => ((pdats m 1 c).arrAt_in 1 rfl _).trans ((show (pdats m 1 c).A 1 = VB m c main_v8 by sl_kernel_rfl).trans ((VB_eq m c main_v8).trans (V4_of m (outs m) c main_v8 (by decide)).symm))
  | ⟨2, _⟩ => ((pdats m 1 c).arrAt_in 2 rfl _).trans ((show (pdats m 1 c).A 2 = VB m c main_v13 by sl_kernel_rfl).trans ((VB_eq m c main_v13).trans (V4_of m (outs m) c main_v13 (by decide)).symm))
  | ⟨3, _⟩ => ((pdats m 1 c).arrAt_in 3 rfl _).trans ((show (pdats m 1 c).A 3 = VB m c main_v14 by sl_kernel_rfl).trans ((VB_eq m c main_v14).trans (V4_of m (outs m) c main_v14 (by decide)).symm))
  | ⟨4, _⟩ => (vp1_0 m c).symm

set_option backward.isDefEq.respectTransparency.types false in
/-- Region 1 over the thread state: entered by taking its arrays out of the unscoped buffers, left by
putting them back. -/
def reg1 : RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (Knn.body_obligation (VB m) c).loose
  hwaits := Pipeline.hwaits_of_owed_zero _ _ _ _ L lv 1 fun _ _ => rfl
  pre c := iprop(unscopedBufs c (VB m c) ∗ ∃ W, owes (c : Thread nD τ) (0 : CellTallies nD τ sig Unit) W)
  post c := iprop(unscopedBufs c (VB' m c) ∗ ∃ W, owes (c : Thread nD τ) (0 : CellTallies nD τ sig Unit) W)
  X _ := BI.emp
  Y _ := BI.emp
  Z c := Pipeline.unscopedRest (Ix := Unit) (Name := ℕ) (U := UU) (Lvl := ℕ) spec1 c (VB m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VB m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = Pipeline.scopedRest (Ix := Unit) (Name := ℕ) (U := UU) (Lvl := ℕ) (Val := Elt F) spec1 c from rfl]
    iintro ⟨-, -, Hr⟩; iexact Hr
  hout c := by
    rw [Pipeline.ownSems0_none, show (pdats m 1 c).Φ (Fin.last _) = Pipeline.scopedRest (Ix := Unit) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 1) (pcfgs (F := F)) adm (Ix := Unit) (Name := ℕ) (U := UU) (Lvl := ℕ) launch1.win launch1.arr_whole c
      (pdats m) ((pdats m 1 c).share_full fun _ => rfl) (VB m c) (VB' m c) ((pdats m 1 c).arrAt · cfg1.N) (arr1 m c)
      (fun b hb => (show VB' m c b = V4 m (outs m) c b from rfl).trans <| Eq.trans (b := V3 m (outs m) c b) (V4_of m (outs m) c b fun h => hb (by
        simp only [List.mem_cons, List.not_mem_nil, or_false] at h
        rcases h with h <;> first | exact Finset.mem_image.mpr ⟨4, Finset.mem_univ _, h.symm⟩)) (VB_eq m c b).symm)
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-- The launch element: the pipelines' rounds at their first, nothing for the second factor. -/
def u₀ : UU := (initOf (Pipeline.cells cfgs cellOf_inj) (Pipeline.launchToks cfgs cellOf_inj), 1)

set_option backward.isDefEq.respectTransparency.types false in
set_option maxHeartbeats 2000000 in
/-- From any memory with every counter at zero the program ends, every counter is zero again, and every
unscoped buffer holds what the segments and regions make of the memory, one after the other. -/
theorem run_main (ρ : Dev nD → PrngReg) :
    θ_run defs (onTc (τ := τ) (main (F := F))) ⟨m, fun _ => 0, ρ⟩ (fun r =>
      (∀ c : Dev nD, ∀ b ∈ Pipeline.ucRefs τ sig, r.2.mem ((c : Thread nD τ).1, b) = V13 m (outs m) c b) ∧ r.2.sem = fun _ => 0) := by
  refine Pipeline.θ_run_regions_kit_dev_sems (pcfgs (F := F)) adm (pdats m) () cellOf_inj EP defs₀ Variants.none L lv m ρ main
    (segs m (outs m) Variants.none L lv (Ow (F := F)) () (pdats m) (reg0 m) (reg1 m))
    (fun c Q => by
      rewrite [main_chain c, Seg.run_eq_chain,
        show (segs m (outs m) Variants.none L lv (Ow (F := F)) () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8] from rfl]
      dsimp (config := { failIfUnchanged := false }) only
      exact .rfl)
    (fun c => by simp only [segs, Seg.pipes_host, Seg.pipes_region, Seg.pipes_nil]; decide) (fun _ => 0) (fun _ _ => rfl) (fun _ => iprop(emp)) u₀ ?_
    (T₀ := fun c => iprop(StableHlo.held (c : Thread nD τ) (Pipeline.ucRefs τ sig) (V0 m c) ∗ Ow 0 c))
    (Tₙ := fun c => StableHlo.held (c : Thread nD τ) (Pipeline.ucRefs τ sig) (V13 m (outs m) c))
    (hch := fun c => ⟨.rfl, ?_, ?_, ?_, ?_, .rfl, .rfl, .rfl, .rfl, .rfl, .rfl, .rfl, .rfl, sep_mono .rfl .rfl⟩)
    (hinit := Pipeline.initEach L lv fun c => ?_) (QY := fun c s => ∀ b ∈ Pipeline.ucRefs τ sig, s.mem ((c : Thread nD τ).1, b) = V13 m (outs m) c b)
    (hfin := fun c s' => ?_) (hQ := fun _ h hz => ⟨h, funext fun g => hz g (.inr (regions_no_unscoped g.2))⟩)
  · unfold u₀
    iintro Hu
    ihave H := (ownU_pair _ _) $$ Hu
    icases H with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  · exact sep_mono (by rw [← Pipeline.unscopedBufs_held (Ix := Unit) (Name := ℕ) (U := UU) (Lvl := ℕ) c (V1 m c)]; exact BI.Entails.refl _) .rfl
  · exact sep_mono (by rw [← Pipeline.unscopedBufs_held (Ix := Unit) (Name := ℕ) (U := UU) (Lvl := ℕ) c (V2 m (outs m) c)]; exact BI.Entails.refl _) .rfl
  · exact sep_mono (by rw [← Pipeline.unscopedBufs_held (Ix := Unit) (Name := ℕ) (U := UU) (Lvl := ℕ) c (V3 m (outs m) c)]; exact BI.Entails.refl _) .rfl
  · exact sep_mono (by rw [← Pipeline.unscopedBufs_held (Ix := Unit) (Name := ℕ) (U := UU) (Lvl := ℕ) c (V4 m (outs m) c)]; exact BI.Entails.refl _) .rfl
  · rw [show (unscopedBufs c (fun b => m ((c : Thread nD τ).loc b)) : sProp 𝕄) = StableHlo.held (c : Thread nD τ) (Pipeline.ucRefs τ sig) (V0 m c) from
      Pipeline.unscopedBufs_held (Ix := Unit) (Name := ℕ) (U := UU) (Lvl := ℕ) c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V13 m (outs m) c) s') $$ [Hh HSI]
    · isplitl [Hh] <;> iassumption
    icases Hr with ⟨%h, HSI⟩
    imodintro
    isplitr; · ipureintro; exact h
    iexact HSI

/-- A buffer of the core is one of those the run speaks of, if it is not scoped. -/
theorem mem_uc (r : Ref sig .tc) (h : ¬ (Proc.devRef .tc r : DevRef τ sig).isScoped) : (Proc.devRef .tc r : DevRef τ sig) ∈ Pipeline.ucRefs τ sig :=
  Finset.mem_filter.mpr ⟨StableHlo.devRef_mem_tcRefs r, h⟩

end Cert.Run
-- ==== Proof.Frames.lean ====
module

public import proofs.«01_k».proof.Defs
public import proofs.«01_k».proof.Proof.Run
public import proofs.«01_k».proof.Proof.Gen.Kernel
public import proofs.«01_k».proof.Proof.Gen.ReferenceIdeal.Run
public import proofs.«01_k».proof.Proof.Gen.Pre_in_range

/-! # The frames: every program ends, leaves its arguments as they were and every counter at zero -/

set_option maxRecDepth 16384

@[expose] public section

noncomputable section

namespace Cert.Frames

open Idealize.ShloMosaic Idealize.ShloMosaic.TcCoe Idealize.SL.Sem

section
open Cert.KernelIdeal Cert.KernelIdeal.Gen Cert.Run

variable {F : FTy → Type} [FloatOps F]

/-- The kernel program, over any float values, ends with its arguments unchanged and its counters at zero. -/
theorem run_args (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  (θ_run defs _ _).mono (fun r h => ⟨fun c => ⟨(h.1 c _ (mem_uc main_arg0 (by decide))).trans (V13_main_arg0 m (outs m) c), (h.1 c _ (mem_uc main_arg1 (by decide))).trans (V13_main_arg1 m (outs m) c), (h.1 c _ (mem_uc main_arg2 (by decide))).trans (V13_main_arg2 m (outs m) c), (h.1 c _ (mem_uc main_arg3 (by decide))).trans (V13_main_arg3 m (outs m) c), (h.1 c _ (mem_uc main_arg4 (by decide))).trans (V13_main_arg4 m (outs m) c), (h.1 c _ (mem_uc main_arg5 (by decide))).trans (V13_main_arg5 m (outs m) c), (h.1 c _ (mem_uc main_arg6 (by decide))).trans (V13_main_arg6 m (outs m) c), (h.1 c _ (mem_uc main_arg7 (by decide))).trans (V13_main_arg7 m (outs m) c), (h.1 c _ (mem_uc main_arg8 (by decide))).trans (V13_main_arg8 m (outs m) c), (h.1 c _ (mem_uc main_arg9 (by decide))).trans (V13_main_arg9 m (outs m) c), (h.1 c _ (mem_uc main_arg10 (by decide))).trans (V13_main_arg10 m (outs m) c), (h.1 c _ (mem_uc main_arg11 (by decide))).trans (V13_main_arg11 m (outs m) c), (h.1 c _ (mem_uc main_arg12 (by decide))).trans (V13_main_arg12 m (outs m) c), (h.1 c _ (mem_uc main_arg13 (by decide))).trans (V13_main_arg13 m (outs m) c), (h.1 c _ (mem_uc main_arg14 (by decide))).trans (V13_main_arg14 m (outs m) c), (h.1 c _ (mem_uc main_arg15 (by decide))).trans (V13_main_arg15 m (outs m) c)⟩, h.2⟩) (run_main m ρ)
end

/-- The frame of the idealized kernel program. -/
theorem frame_ideal : Cert.quiescent_KernelIdeal := fun m ρ _ => run_args (F := Ideal) m ρ

/-- The frame of the idealized kernel program, from arguments in range. -/
theorem frame_ideal_in_range : Cert.quiescent_KernelIdeal_pre_in_range := fun m ρ _ => run_args (F := Ideal) m ρ

/-- What the frame of the kernel program says, of the text printed for the idealized one, at the bit patterns. -/
def Frame : Prop := ∀ (m : (ℓ : Loc Cert.KernelIdeal.nD Cert.KernelIdeal.τ Cert.KernelIdeal.sig) → Buf (Elt Bits) ℓ) (ρ : Dev Cert.KernelIdeal.nD → PrngReg), True →
    θ_run (Cert.KernelIdeal.defs (F := Bits)) (onTc (τ := Cert.KernelIdeal.τ) (Cert.KernelIdeal.main (F := Bits))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

/-- The two programs are one text, so the two frames are one statement. -/
theorem frame_eq : Frame = Cert.quiescent_Kernel := by sl_kernel_rfl

/-- The frame of the kernel program: the same run over the bit patterns. -/
theorem frame_kernel : Cert.quiescent_Kernel := frame_eq ▸ fun m ρ _ => run_args (F := Bits) m ρ

/-- The frame of the reference program, from any memory. -/
theorem frame_reference : Cert.quiescent_ReferenceIdeal := fun m ρ _ =>
  (θ_run Cert.ReferenceIdeal.defs _ _).mono (fun r h => ⟨fun c => ⟨(h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2.1, (h c).2.2.2.2.2.2.2.2.2.2.2.2.2.2.2.2.1, (h c).2.2.2.2.2.2.2.2.2.2.2.2.2.2.2.2.2.1, (h c).2.2.2.2.2.2.2.2.2.2.2.2.2.2.2.2.2.2.1, (h c).2.2.2.2.2.2.2.2.2.2.2.2.2.2.2.2.2.2.2.1, (h c).2.2.2.2.2.2.2.2.2.2.2.2.2.2.2.2.2.2.2.2.1, (h c).2.2.2.2.2.2.2.2.2.2.2.2.2.2.2.2.2.2.2.2.2⟩,
    sem_eq_zero_of_no_sems (by decide) r.2⟩) (Cert.ReferenceIdeal.Value.run (F := Ideal) m ρ)

/-- The frame of the reference program, from arguments in range. -/
theorem frame_reference_in_range : Cert.quiescent_ReferenceIdeal_pre_in_range := fun m ρ _ => frame_reference m ρ trivial

end Cert.Frames
-- ==== Proof.Row.lean ====
module

public import Idealize.ShloMosaic.PureOps.Reduce
public import Mathlib.Data.Fintype.Card
public import Idealize.ShloMosaic.Lib.Tactic

/-! # Words in signed order, and picking the least again and again

The keys of a row are 32-bit words with the sign bit turned over, so that their signed order is the
order of the natural numbers behind them. The least word that is not below a bound, taken again and
again with the bound just past the last pick, lists those numbers in increasing order. -/

@[expose] public section

namespace Cert.Row

open Idealize.ShloMosaic

/-- The natural number whose order is the signed order of the word. -/
def rk (u : BitVec 32) : ℕ := (u.toNat + 2147483648) % 4294967296

theorem rk_lt (u : BitVec 32) : rk u < 4294967296 := Nat.mod_lt _ (by decide)

theorem toInt_rk (u : BitVec 32) : u.toInt = (rk u : ℤ) - 2147483648 := by
  have := u.isLt
  rw [BitVec.toInt_eq_toNat_cond]
  unfold rk
  split <;> omega

theorem slt_rk (a b : BitVec 32) : a.slt b = true ↔ rk a < rk b := by
  rw [BitVec.slt_iff_toInt_lt, toInt_rk, toInt_rk]; omega

theorem sle_rk (a b : BitVec 32) : a.sle b = true ↔ rk a ≤ rk b := by
  rw [BitVec.sle_iff_toInt_le, toInt_rk, toInt_rk]; omega

theorem rk_inj {a b : BitVec 32} (h : rk a = rk b) : a = b := by
  apply BitVec.eq_of_toInt_eq
  rw [toInt_rk, toInt_rk, h]

/-- Turning the sign bit of a word over gives the word of its rank. -/
theorem toNat_add_min (u : BitVec 32) : (u + 2147483648#32).toNat = rk u := by
  rw [BitVec.toNat_add]; rfl

/-- The rank of a word with its sign bit turned over is the word's own number. -/
theorem rk_add_min (u : BitVec 32) : rk (u + 2147483648#32) = u.toNat := by
  have := u.isLt
  unfold rk
  rw [BitVec.toNat_add]
  simp only [BitVec.toNat_ofNat]
  omega

theorem rk_sub (x p : BitVec 32) : rk (x - p) = (rk x + (4294967296 - p.toNat)) % 4294967296 := by
  have := x.isLt
  have := p.isLt
  unfold rk
  rw [BitVec.toNat_sub]
  omega

/-- The smaller of two words is one of them, and not above either. -/
theorem minsi_spec (a b : BitVec 32) :
    (IntOp.minsi a b = a ∨ IntOp.minsi a b = b) ∧ rk (IntOp.minsi a b) ≤ rk a ∧ rk (IntOp.minsi a b) ≤ rk b := by
  unfold IntOp.minsi
  by_cases h : a.slt b = true
  · rw [if_pos h]; have := (slt_rk _ _).1 h; exact ⟨.inl rfl, le_refl _, this.le⟩
  · rw [if_neg h]; have := mt (slt_rk _ _).2 h; exact ⟨.inr rfl, by omega, le_refl _⟩

/-- The larger and the smaller of two words are the two. -/
theorem minmax (a b : BitVec 32) :
    (IntOp.minsi a b = a ∧ IntOp.maxsi a b = b) ∨ (IntOp.minsi a b = b ∧ IntOp.maxsi a b = a) := by
  unfold IntOp.minsi IntOp.maxsi
  by_cases h : a.slt b = true
  · have h' : ¬ b.slt a = true := by rw [slt_rk] at h ⊢; omega
    rw [if_pos h, if_neg h']; exact .inl ⟨rfl, rfl⟩
  · by_cases h' : b.slt a = true
    · rw [if_neg h, if_pos h']; exact .inr ⟨rfl, rfl⟩
    · have : a = b := rk_inj (by have := mt (slt_rk _ _).2 h; have := mt (slt_rk _ _).2 h'; omega)
      subst this
      exact .inl ⟨if_neg h, if_neg h⟩

/-- A word is one of two exactly where it is the smaller or the larger of them. -/
theorem mem_minmax (a b y : BitVec 32) : (y = IntOp.minsi a b ∨ y = IntOp.maxsi a b) ↔ (y = a ∨ y = b) := by
  rcases minmax a b with ⟨h1, h2⟩ | ⟨h1, h2⟩
  · simp only [h1, h2]
  · simp only [h1, h2]; exact or_comm

/-- The signed least of finitely many words, from the largest word there is: not above any of them, and
one of them, or the largest word. -/
theorem fold_min {ι : Type} [DecidableEq ι] (s : Finset ι) (f : ι → BitVec 32) :
    (∀ c ∈ s, rk (s.fold IKind.minsi.op 2147483647#32 f) ≤ rk (f c)) ∧
      (s.fold IKind.minsi.op 2147483647#32 f = 2147483647#32 ∨ ∃ c ∈ s, s.fold IKind.minsi.op 2147483647#32 f = f c) := by
  induction s using Finset.induction_on with
  | empty => simp
  | insert a s ha ih =>
    rw [Finset.fold_insert ha]
    obtain ⟨h1, h2⟩ := ih
    obtain ⟨hm, hl, hr⟩ := minsi_spec (f a) (s.fold IKind.minsi.op 2147483647#32 f)
    change (∀ c ∈ insert a s, rk (IntOp.minsi (f a) _) ≤ rk (f c)) ∧ (IntOp.minsi (f a) _ = _ ∨ ∃ c ∈ insert a s, IntOp.minsi (f a) _ = f c)
    refine ⟨fun c hc => ?_, ?_⟩
    · rcases Finset.mem_insert.1 hc with rfl | hc
      · exact hl
      · exact hr.trans (h1 c hc)
    · rcases hm with hm | hm
      · exact .inr ⟨a, Finset.mem_insert_self _ _, hm⟩
      · rcases h2 with h2 | ⟨c, hc, h2⟩
        · exact .inl (hm.trans h2)
        · exact .inr ⟨c, Finset.mem_insert_of_mem hc, hm.trans h2⟩

/-- One pick: among words of rank `rk (x c)`, some of which are at or above the bound `p`, the least
difference from `p` put back is the least rank at or above `p`. -/
theorem pick_spec {ι : Type} [DecidableEq ι] (s : Finset ι) (x : ι → BitVec 32) (p : BitVec 32)
    (h : ∃ c ∈ s, p.toNat ≤ rk (x c)) :
    ∃ c ∈ s, (s.fold IKind.minsi.op 2147483647#32 (fun c => x c - p) + 2147483648#32 + p).toNat = rk (x c) ∧
      p.toNat ≤ rk (x c) ∧ ∀ c' ∈ s, p.toNat ≤ rk (x c') → rk (x c) ≤ rk (x c') := by
  obtain ⟨h1, h2⟩ := fold_min s (fun c => x c - p)
  obtain ⟨c0, hc0, hp0⟩ := h
  have hp := p.isLt
  have key : ∃ c ∈ s, s.fold IKind.minsi.op 2147483647#32 (fun c => x c - p) = x c - p := by
    rcases h2 with h2 | h2
    · refine ⟨c0, hc0, rk_inj ?_⟩
      have := h1 c0 hc0
      rw [h2] at this ⊢
      have hr := rk_lt (x c0 - p)
      have : rk 2147483647#32 = 4294967295 := by decide
      omega
    · exact h2
  obtain ⟨c, hc, he⟩ := key
  rw [he] at h1 ⊢
  have hx : (x c - p + 2147483648#32 + p).toNat = rk (x c) := by
    rw [BitVec.toNat_add, toNat_add_min, rk_sub]
    have := rk_lt (x c)
    omega
  have hlt : ∀ c, rk (x c) < 4294967296 := fun c => rk_lt _
  have hpc : p.toNat ≤ rk (x c) := by
    by_contra hn
    have := h1 c0 hc0
    rw [rk_sub, rk_sub] at this
    have := hlt c; have := hlt c0
    omega
  refine ⟨c, hc, hx, hpc, fun c' hc' hp' => ?_⟩
  have := h1 c' hc'
  rw [rk_sub, rk_sub] at this
  have := hlt c; have := hlt c'
  omega

/-- `o n` is the least number of `S` at or above the bound `p n`. -/
def IsPick (S : ℕ → Prop) (p o : ℕ → ℕ) (n : ℕ) : Prop :=
  S (o n) ∧ p n ≤ o n ∧ ∀ s, S s → p n ≤ s → o n ≤ s

/-- Of a set with at least `N` numbers the first `N` picks all succeed. -/
theorem picks {S : ℕ → Prop} {p o : ℕ → ℕ} {N : ℕ} (g : Fin N → ℕ) (ginj : Function.Injective g) (gS : ∀ i, S (g i))
    (p0 : p 0 = 0) (pn : ∀ n, S (o n) → p (n + 1) = o n + 1)
    (ho : ∀ n, (∃ s, S s ∧ p n ≤ s) → IsPick S p o n) : ∀ n < N, IsPick S p o n := by
  have main : ∀ n ≤ N, (∀ m < n, IsPick S p o m) ∧ ∀ s, S s → s < p n → ∃ m < n, s = o m := by
    intro n
    induction n with
    | zero => exact fun _ => ⟨fun m hm => absurd hm (by omega), fun s _ hs => absurd hs (by omega)⟩
    | succ n ih =>
      intro hn
      obtain ⟨h1, h2⟩ := ih (by omega)
      have hex : ∃ s, S s ∧ p n ≤ s := by
        by_contra hno
        have hall : ∀ i : Fin N, ∃ m : Fin n, g i = o m := fun i => by
          obtain ⟨m, hm, e⟩ := h2 (g i) (gS i) (by by_contra hc; exact hno ⟨g i, gS i, by omega⟩)
          exact ⟨⟨m, hm⟩, e⟩
        choose f hf using hall
        have finj : Function.Injective f := fun i j hij => ginj (by rw [hf i, hf j, hij])
        have := Fintype.card_le_of_injective f finj
        simp only [Fintype.card_fin] at this
        omega
      have hp := ho n hex
      refine ⟨fun m hm => ?_, fun s hs hlt => ?_⟩
      · rcases Nat.lt_succ_iff_lt_or_eq.1 hm with hm | rfl
        · exact h1 m hm
        · exact hp
      · rw [pn n hp.1] at hlt
        by_cases hs' : s < p n
        · obtain ⟨m, hm, e⟩ := h2 s hs hs'
          exact ⟨m, by omega, e⟩
        · exact ⟨n, by omega, by have := hp.2.2 s hs (by omega); omega⟩
  exact fun n hn => (main N (le_refl _)).1 n hn

/-- The picks increase. -/
theorem picks_lt {S : ℕ → Prop} {p o : ℕ → ℕ} {N : ℕ} (pn : ∀ n, S (o n) → p (n + 1) = o n + 1)
    (h : ∀ n < N, IsPick S p o n) : ∀ m n, m < n → n < N → o m < o n := by
  intro m n
  induction n with
  | zero => intro h; omega
  | succ n ih =>
    intro hm hn
    have h1 := (h (n + 1) hn).2.1
    rw [pn n (h n (by omega)).1] at h1
    rcases Nat.lt_succ_iff_lt_or_eq.1 hm with hm | rfl
    · have := ih hm (by omega); omega
    · omega

/-- A number of the set that is none of the first `N` picks is above all of them. -/
theorem picks_dom {S : ℕ → Prop} {p o : ℕ → ℕ} {N : ℕ} (p0 : p 0 = 0) (pn : ∀ n, S (o n) → p (n + 1) = o n + 1)
    (h : ∀ n < N, IsPick S p o n) (s : ℕ) (hs : S s) (hne : ∀ n < N, s ≠ o n) : ∀ n < N, o n < s := by
  have hp : ∀ n < N, p n ≤ s := by
    intro n
    induction n with
    | zero => intro _; omega
    | succ n ih =>
      intro hn
      rw [pn n (h n (by omega)).1]
      have := (h n (by omega)).2.2 s hs (ih (by omega))
      have := hne n (by omega)
      omega
  intro n hn
  have := (h n hn).2.2 s hs (hp n hn)
  have := hne n hn
  omega

/-- Picks from a part `C` of a set `S` are picks from `S` where every number of `S` outside `C` is above
the last of them. -/
theorem picks_mono {S C : ℕ → Prop} {p o : ℕ → ℕ} {N : ℕ} (pn : ∀ n, C (o n) → p (n + 1) = o n + 1)
    (h : ∀ n < N + 1, IsPick C p o n) (hC : ∀ s, C s → S s) (hS : ∀ s, S s → C s ∨ o N ≤ s) :
    ∀ n < N + 1, IsPick S p o n := fun n hn => by
  obtain ⟨h1, h2, h3⟩ := h n hn
  refine ⟨hC _ h1, h2, fun s hs hps => ?_⟩
  rcases hS s hs with hs | hs
  · exact h3 s hs hps
  · rcases Nat.lt_succ_iff_lt_or_eq.1 hn with hn' | rfl
    · have := picks_lt pn h n N hn' (by omega); omega
    · exact hs

/-- From picks among injectively keyed positions: the positions picked, in order, each before every
position not picked. -/
theorem select {n N : ℕ} (K : Fin n → ℕ) (hK : Function.Injective K) {p o : ℕ → ℕ} (p0 : p 0 = 0)
    (pn : ∀ k, (∃ c, o k = K c) → p (k + 1) = o k + 1)
    (h : ∀ k < N, IsPick (fun s => ∃ c, s = K c) p o k) :
    ∃ σ : Fin N → Fin n, (∀ i, o i.1 = K (σ i)) ∧ (∀ i j, i < j → K (σ i) < K (σ j)) ∧
      ∀ q, (∀ j, σ j ≠ q) → ∀ i, K (σ i) < K q := by
  choose σ hσ using fun i : Fin N => (h i.1 i.2).1
  refine ⟨σ, hσ, fun i j hij => ?_, fun q hq i => ?_⟩
  · rw [← hσ, ← hσ]; exact picks_lt pn h _ _ hij j.2
  · rw [← hσ]
    exact picks_dom p0 pn h _ ⟨q, rfl⟩ (fun k hk e => hq ⟨k, hk⟩ (hK ((hσ ⟨k, hk⟩).symm.trans e.symm))) _ i.2

end Cert.Row
-- ==== Proof.KnnRow.lean ====
module

public import proofs.«01_k».proof.Proof.KnnFn
public import proofs.«01_k».proof.Proof.Row
public import Idealize.ShloMosaic.Lib.Pointwise
public import Idealize.ShloMosaic.Lib.Pipeline.Value

/-! # One row of the neighbour body

What the picks are, read at one row; that five minima a lane and the picks from them are
the picks from all keys where no lane is suspect. -/

set_option maxRecDepth 16384

@[expose] public section

noncomputable section

namespace Cert.Knn

open Cert.KernelIdeal Cert.KernelIdeal.Gen Idealize.ShloMosaic Idealize.SL.Sem Cert.Row

/-- The signed least over a row's columns, as a fold over the columns. -/
theorem red_at {n : ℕ} (y : IVec ⟨2, ![160, n]⟩ 32) (h : Shape.Reduces ⟨2, ![160, n]⟩ [1] S160) (e) (r : Fin 160) :
    multiReductionI .minsi [1] S160 y 2147483647#32 h e (ix1 r) = (Finset.univ : Finset (Fin n)).fold IKind.minsi.op 2147483647#32 fun c => y (ix2 r c) := by
  rw [multiReductionI_eq_fold]
  have hs : (Finset.univ.filter fun i => h.drop i = ix1 r) = (Finset.univ : Finset (Fin n)).map ⟨fun c => (ix2 r c : (⟨2, ![160, n]⟩ : Shape).Idx), fun a b hab => (congrFun hab 1 : a = b)⟩ := by
    ext i
    simp only [Finset.mem_filter, Finset.mem_univ, true_and, Finset.mem_map, Function.Embedding.coeFn_mk]
    have hd : (h.drop i 0 : Nat) = i 0 := h.drop_apply_val_of_eq i 0 0 (by simp [Shape.kept]) rfl
    constructor
    · intro hi
      refine ⟨i 1, ?_⟩
      have h0 : i 0 = r := Fin.ext (by rw [← hd, hi]; rfl)
      rw [eq_ix2 i, h0]
      rfl
    · rintro ⟨c, rfl⟩
      funext b
      have : b = 0 := Subsingleton.elim _ _
      subst this
      exact Fin.ext hd
  rw [hs, Finset.fold_map]
  rfl

/-- A pick from the candidates, at a row. -/
theorem oF_at (x : IVec S160x640 32) (n : ℕ) (r : Fin 160) :
    oF x n (ix2 r 0) = (Finset.univ : Finset (Fin 640)).fold IKind.minsi.op 2147483647#32 (fun c => x (ix2 r c) - pF x n (ix2 r 0)) + 2147483648#32 + pF x n (ix2 r 0) := by
  have h := red_at (subi x (broadcastTo S160x640 (pF x n) broadcasts_S160x1_S160x640)) reduces_S160x640_S160 rfl r
  unfold oF pick redF
  generalize hP : pF x n = P at *
  generalize multiReductionI .minsi [1] S160 (subi x (broadcastTo S160x640 P broadcasts_S160x1_S160x640)) 2147483647#32 reduces_S160x640_S160 rfl = R at *
  pointwise at h ⊢
  rw [h]; rfl

/-- A pick from all keys, at a row. -/
theorem oS_at (x : IVec S160x20480 32) (n : ℕ) (r : Fin 160) :
    oS x n (ix2 r 0) = (Finset.univ : Finset (Fin 20480)).fold IKind.minsi.op 2147483647#32 (fun c => x (ix2 r c) - pS x n (ix2 r 0)) + 2147483648#32 + pS x n (ix2 r 0) := by
  have h := red_at (subi x (broadcastTo S160x20480 (pS x n) broadcasts_S160x1_S160x20480)) reduces_S160x20480_S160 rfl r
  unfold oS pick redS
  generalize hP : pS x n = P at *
  generalize multiReductionI .minsi [1] S160 (subi x (broadcastTo S160x20480 P broadcasts_S160x1_S160x20480)) 2147483647#32 reduces_S160x20480_S160 rfl = R at *
  pointwise at h ⊢
  rw [h]; rfl

/-- The bound after a pick is one more than it. -/
theorem nxt_at (o : IVec S160x1 32) (r : Fin 160) (h : (o (ix2 r 0)).toNat < 4294967295) :
    (nxt o (ix2 r 0)).toNat = (o (ix2 r 0)).toNat + 1 := by
  change (o (ix2 r 0) + 1#32).toNat = _
  rw [BitVec.toNat_add]
  simp only [BitVec.toNat_ofNat]
  omega

/-- Column `n` of twenty-seven columns side by side. -/
theorem row27_at (f : ℕ → IVec S160x1 32) (r : Fin 160) (n : Fin 27) : row27 f (ix2 r n) = f n.1 (ix2 r 0) := by
  unfold row27
  exact concatenate_ofFn_unit_apply (t := S160x27) (s₁ := S160x1) 1 (fun n : Fin 27 => f n.1) _ rfl rfl (ix2 r n) n rfl (ix2 r 0) (fun b hb => by
    fin_cases b
    · rfl
    · exact absurd rfl hb)

/-- The candidates of a row are the five minima of its lanes. -/
theorem cands_at (L : Lv) (r : Fin 160) (q : Fin 640) :
    cands L (ix2 r q) = (![L.a, L.b, L.c, L.d, L.e] ⟨q.1 / 128, by omega⟩) (ix2 r ⟨q.1 % 128, Nat.mod_lt _ (by decide)⟩) := by
  unfold cands
  exact concatenate_ofFn_apply (t := S160x640) (s₁ := S160x128) 1 (fun n : Fin 5 => ![L.a, L.b, L.c, L.d, L.e] n) _ rfl 128 rfl (ix2 r q) ⟨q.1 / 128, by omega⟩ rfl
    (ix2 r ⟨q.1 % 128, Nat.mod_lt _ (by decide)⟩) rfl (fun b hb => by
    fin_cases b
    · rfl
    · exact absurd rfl hb)

/-- `y` is one of the five minima at a place. -/
def In (L : Lv) (i : S160x128.Idx) (y : BitVec 32) : Prop := y = L.a i ∨ y = L.b i ∨ y = L.c i ∨ y = L.d i ∨ y = L.e i

/-- A word put through five exchanges: what comes out is what went in. -/
theorem shuffle {a b c d e v w1 w2 w3 w4 z m1 m2 m3 m4 m5 : Prop} (h1 : (m1 ∨ w1) ↔ (a ∨ v)) (h2 : (m2 ∨ w2) ↔ (b ∨ w1)) (h3 : (m3 ∨ w3) ↔ (c ∨ w2))
    (h4 : (m4 ∨ w4) ↔ (d ∨ w3)) (h5 : (m5 ∨ z) ↔ (e ∨ w4)) : ((m1 ∨ m2 ∨ m3 ∨ m4 ∨ m5) ∨ z) ↔ ((a ∨ b ∨ c ∨ d ∨ e) ∨ v) := by
  grind

/-- Five words put through four rounds of exchanges: what comes out is what went in. -/
theorem shuffle0 {x0 x1 x2 x3 x4 a1 r1 b1 r2 c1 r3 d1 e1 a2 s1 b2 s2 c2 d2 a3 t1 b3 c3 a4 b4 : Prop}
    (h1 : (a1 ∨ r1) ↔ (x0 ∨ x1)) (h2 : (b1 ∨ r2) ↔ (r1 ∨ x2)) (h3 : (c1 ∨ r3) ↔ (r2 ∨ x3)) (h4 : (d1 ∨ e1) ↔ (r3 ∨ x4))
    (h5 : (a2 ∨ s1) ↔ (a1 ∨ b1)) (h6 : (b2 ∨ s2) ↔ (s1 ∨ c1)) (h7 : (c2 ∨ d2) ↔ (s2 ∨ d1)) (h8 : (a3 ∨ t1) ↔ (a2 ∨ b2)) (h9 : (b3 ∨ c3) ↔ (t1 ∨ c2))
    (h10 : (a4 ∨ b4) ↔ (a3 ∨ b3)) : (a4 ∨ b4 ∨ c3 ∨ d2 ∨ e1) ↔ (x0 ∨ x1 ∨ x2 ∨ x3 ∨ x4) := by
  have k1 : (a1 ∨ b1 ∨ c1 ∨ d1 ∨ e1) ↔ (x0 ∨ x1 ∨ x2 ∨ x3 ∨ x4) := by grind
  have k2 : (a2 ∨ b2 ∨ c2 ∨ d2) ↔ (a1 ∨ b1 ∨ c1 ∨ d1) := by grind
  have k3 : (a3 ∨ b3 ∨ c3) ↔ (a2 ∨ b2 ∨ c2) := by grind
  grind

/-- After one more slice: the minima and one word that is not below the fifth are the old minima and
the slice's word. -/
theorem step_at (L : Lv) (v : IVec S160x128 32) (i : S160x128.Idx) :
    ∃ z, rk ((step L v).e i) ≤ rk z ∧ rk ((step L v).e i) ≤ rk (L.e i) ∧ ∀ y, (In (step L v) i y ∨ y = z) ↔ (In L i y ∨ y = v i) := by
  refine ⟨IntOp.maxsi (L.e i) (maxsi L.d (maxsi L.c (maxsi L.b (maxsi L.a v))) i), ?_, ?_, fun y => ?_⟩
  · change rk (IntOp.minsi _ _) ≤ _
    rcases minmax (L.e i) (maxsi L.d (maxsi L.c (maxsi L.b (maxsi L.a v))) i) with ⟨h1, h2⟩ | ⟨h1, h2⟩
    · rw [h2, ← h1]; exact (minsi_spec _ _).2.2
    · rw [h2]; exact (minsi_spec _ _).2.1
  · exact (minsi_spec _ _).2.1
  · have h1 := mem_minmax (L.a i) (v i) y
    have h2 := mem_minmax (L.b i) (maxsi L.a v i) y
    have h3 := mem_minmax (L.c i) (maxsi L.b (maxsi L.a v) i) y
    have h4 := mem_minmax (L.d i) (maxsi L.c (maxsi L.b (maxsi L.a v)) i) y
    have h5 := mem_minmax (L.e i) (maxsi L.d (maxsi L.c (maxsi L.b (maxsi L.a v))) i) y
    change ((y = IntOp.minsi (L.a i) (v i) ∨ y = IntOp.minsi (L.b i) (maxsi L.a v i) ∨ y = IntOp.minsi (L.c i) (maxsi L.b (maxsi L.a v) i)
      ∨ y = IntOp.minsi (L.d i) (maxsi L.c (maxsi L.b (maxsi L.a v)) i) ∨ y = IntOp.minsi (L.e i) (maxsi L.d (maxsi L.c (maxsi L.b (maxsi L.a v))) i)) ∨ _) ↔
      ((y = L.a i ∨ y = L.b i ∨ y = L.c i ∨ y = L.d i ∨ y = L.e i) ∨ y = v i)
    change _ ↔ (_ ∨ y = maxsi L.a v i) at h2
    change (_ ∨ y = maxsi L.a v i) ↔ _ at h1
    change (_ ∨ y = maxsi L.b (maxsi L.a v) i) ↔ _ at h2
    change (_ ∨ y = maxsi L.c (maxsi L.b (maxsi L.a v)) i) ↔ _ at h3
    change (_ ∨ y = maxsi L.d (maxsi L.c (maxsi L.b (maxsi L.a v))) i) ↔ _ at h4
    exact shuffle h1 h2 h3 h4 h5

/-- The first five minima are the first five slices' words. -/
theorem lev0_at (x : IVec S160x20480 32) (i : S160x128.Idx) (y : BitVec 32) :
    In (lev0 x) i y ↔ (y = sl x 0 i ∨ y = sl x 1 i ∨ y = sl x 2 i ∨ y = sl x 3 i ∨ y = sl x 4 i) :=
  shuffle0 (mem_minmax (sl x 0 i) (sl x 1 i) y) (mem_minmax (maxsi (sl x 0) (sl x 1) i) (sl x 2 i) y)
    (mem_minmax (maxsi (maxsi (sl x 0) (sl x 1)) (sl x 2) i) (sl x 3 i) y)
    (mem_minmax (maxsi (maxsi (maxsi (sl x 0) (sl x 1)) (sl x 2)) (sl x 3) i) (sl x 4 i) y)
    (mem_minmax _ _ y) (mem_minmax _ _ y) (mem_minmax _ _ y) (mem_minmax _ _ y) (mem_minmax _ _ y) (mem_minmax _ _ y)

/-- Each of the five minima after `n + 5` slices is a word of one of them. -/
theorem lev_mem (x : IVec S160x20480 32) (i : S160x128.Idx) : ∀ n y, In (lev x n) i y → ∃ k < n + 5, y = sl x k i
  | 0, y, h => by
    rcases (lev0_at x i y).1 h with h | h | h | h | h
    · exact ⟨0, by omega, h⟩
    · exact ⟨1, by omega, h⟩
    · exact ⟨2, by omega, h⟩
    · exact ⟨3, by omega, h⟩
    · exact ⟨4, by omega, h⟩
  | n + 1, y, h => by
    obtain ⟨z, -, -, hz⟩ := step_at (lev x n) (sl x (n + 5)) i
    rcases (hz y).1 (.inl h) with h | h
    · obtain ⟨k, hk, e⟩ := lev_mem x i n y h
      exact ⟨k, by omega, e⟩
    · exact ⟨n + 5, by omega, h⟩

/-- A word of the first `n + 5` slices is one of the five minima, or not below the fifth. -/
theorem lev_cov (x : IVec S160x20480 32) (i : S160x128.Idx) : ∀ n, ∀ k < n + 5, In (lev x n) i (sl x k i) ∨ rk ((lev x n).e i) ≤ rk (sl x k i)
  | 0, k, hk => by
    left
    rw [show lev x 0 = lev0 x from rfl, lev0_at]
    obtain rfl | rfl | rfl | rfl | rfl : k = 0 ∨ k = 1 ∨ k = 2 ∨ k = 3 ∨ k = 4 := by omega
    all_goals simp
  | n + 1, k, hk => by
    obtain ⟨z, hz1, hz2, hz⟩ := step_at (lev x n) (sl x (n + 5)) i
    change In (step (lev x n) (sl x (n + 5))) i _ ∨ rk ((step (lev x n) (sl x (n + 5))).e i) ≤ _
    by_cases hkn : k < n + 5
    · rcases lev_cov x i n k hkn with h | h
      · rcases (hz _).2 (.inl h) with h | h
        · exact .inl h
        · right; rw [h]; exact hz1
      · exact .inr (hz2.trans h)
    · obtain rfl : k = n + 5 := by omega
      rcases (hz _).2 (.inr rfl) with h | h
      · exact .inl h
      · right; rw [h]; exact hz1

/-- A slice at a place is the key of its column. -/
theorem sl_at (x : IVec S160x20480 32) (k : ℕ) (hk : k < 160) (r : Fin 160) (l : Fin 128) :
    sl x k (ix2 r l) = x (ix2 r ⟨128 * k + l.1, by omega⟩) := by
  unfold sl
  have : (Fin.ofNat 160 k).1 = k := Nat.mod_eq_of_lt hk
  refine congrArg x (funext fun b => ?_)
  fin_cases b
  · exact Fin.ext (by simp [Shape.Slices])
  · exact Fin.ext (by simp [this]; exact hk)

end Cert.Knn
-- ==== Proof.KnnSus.lean ====
module

public import proofs.«01_k».proof.Proof.KnnRow

/-! # What the body's test of suspect lanes tells -/

set_option maxRecDepth 16384

@[expose] public section

noncomputable section

namespace Cert.Knn

open Cert.KernelIdeal Cert.KernelIdeal.Gen Idealize.ShloMosaic Idealize.SL.Sem Cert.Row

/-- The maximum of all entries is above zero where one entry is one. -/
theorem max_pos (v : FVec Ideal S160x128 .f32) (r : Fin 160) (l : Fin 128) (hv : v (ix2 r l) = 1) (acc : BitVec 32) (hs) (hr) (hf) (ha) (j : S1.Idx) :
    (0 : EReal) < multiReduction .maximumf [1, 2] S1 (shapeCast S1x160x128 v hs) acc hr hf ha j := by
  have hm : Std.Commutative (FloatOps.maximumf (F := Ideal) (φ := .f32)) := ⟨fun a b => max_comm (α := EReal) a b⟩
  have hm' : Std.Associative (FloatOps.maximumf (F := Ideal) (φ := .f32)) := ⟨fun a b c => max_assoc (α := EReal) a b c⟩
  rw [multiReduction_maximumf_eq_fold]
  refine (Finset.lt_fold_max (c := (0 : EReal))).2 (.inr ⟨ix3 0 r l, Finset.mem_filter.2 ⟨Finset.mem_univ _, ?_⟩, ?_⟩)
  · funext k
    have hk : k = 0 := Subsingleton.elim _ _
    subst hk
    exact Subsingleton.elim (α := Fin 1) _ _
  · pointwise
    rw [hv]
    exact zero_lt_one

/-- What is read out of a vector whose entries are all above zero is above zero. -/
theorem extract_pos (w : FVec Ideal S1 .f32) (hw : ∀ j, (0 : EReal) < w j) (hs) (hp) : (0 : EReal) < extractAt ![0, 0, 0] (shapeCast S1x1x1 w hs) hp := hw _

/-- A value above zero compares greater than the float zero. -/
theorem gt_one (w : Ideal .f32) (h : (0 : EReal) < w) : Scalar.cmpf .ogt w (Scalar.ofBits .f32 0x00000000#32) = 1#1 := by
  have h0 : Ideal.ofBits .f32 0x00000000#32 = (0 : EReal) := by pointwise
  refine (Ideal.cmp_ogt_eq_one (x := w) (y := Ideal.ofBits .f32 0x00000000#32)).2 ?_
  rw [h0]; exact h

/-- The test at a lane: with the lane's fifth minimum not above the last pick, the test answers yes. -/
theorem sus_of (E : IVec S160x128 32) (o : IVec S160x1 32) (r : Fin 160) (l : Fin 128)
    (hn : rk (E (ix2 r l)) ≤ rk (o (ix2 r 0) + 2147483648#32)) :
    Scalar.cmpf .ogt (k1_pay1455 (F := Ideal) E o (broadcast S160x1 2147483648#32)) (Scalar.ofBits .f32 0x00000000#32) = 1#1 := by
  have e : IntOp.cmpi .sle (E (ix2 r l)) (IntOp.addi (o (ix2 r 0)) 2147483648#32) = 1#1 := by
    have : (E (ix2 r l)).sle (o (ix2 r 0) + 2147483648#32) = true := (sle_rk _ _).2 hn
    change BitVec.ofBool ((E (ix2 r l)).sle (o (ix2 r 0) + 2147483648#32)) = 1#1
    rw [this]; rfl
  have hv : ∀ b1 b0 : FVec Ideal S160x128 .f32, b1 (ix2 r l) = (1 : EReal) →
      select (cmpi .sle E (broadcastTo S160x128 (addi o (broadcast S160x1 2147483648#32)) broadcasts_S160x1_S160x128)) b1 b0 (ix2 r l) = (1 : EReal) := fun b1 b0 h1 => by
    pointwise
    rw [e]; exact h1
  have h1 : Ideal.ofBits .f32 0x3F800000#32 = (1 : EReal) := by pointwise
  have hp := max_pos _ r l (hv (broadcast S160x128 (Scalar.ofBits .f32 0x3F800000#32)) (broadcast S160x128 (Scalar.ofBits .f32 0x00000000#32)) h1)
  have key : (0 : EReal) < k1_pay1455 (F := Ideal) E o (broadcast S160x1 2147483648#32) := by
    unfold k1_pay1455
    exact extract_pos _ (fun j => hp _ _ _ _ _ j) _ _
  exact gt_one _ key

/-- Where the test finds no suspect lane, every lane's fifth minimum is above the row's last pick. -/
theorem not_sus (L : Lv) (h : ¬ sus (F := Ideal) L = 1#1) (r : Fin 160) (l : Fin 128) :
    rk (oF (cands L) 26 (ix2 r 0) + 2147483648#32) < rk (L.e (ix2 r l)) := by
  unfold sus at h
  generalize oF (cands L) 26 = o at *
  exact Nat.lt_of_not_le fun hn => h (sus_of L.e o r l hn)

end Cert.Knn
-- ==== Proof.KnnSel.lean ====
module

public import proofs.«01_k».proof.Proof.KnnSus

/-! # What the body stores for a row: the twenty-seven least keys in order -/

set_option maxRecDepth 16384

@[expose] public section

noncomputable section

namespace Cert.Knn

open Cert.KernelIdeal Cert.KernelIdeal.Gen Idealize.ShloMosaic Idealize.SL.Sem Cert.Row

attribute [local irreducible] rk

/-- The first pick is from zero on. -/
theorem pF_zero (x : IVec S160x640 32) (i : S160x1.Idx) : (pF x 0 i).toNat = 0 := rfl

/-- The first pick is from zero on. -/
theorem pS_zero (x : IVec S160x20480 32) (i : S160x1.Idx) : (pS x 0 i).toNat = 0 := rfl

theorem pF_succ (x : IVec S160x640 32) (n : ℕ) : pF x (n + 1) = nxt (oF x n) := rfl

theorem pS_succ (x : IVec S160x20480 32) (n : ℕ) : pS x (n + 1) = nxt (oS x n) := rfl

variable {ι : Type} [Fintype ι] [DecidableEq ι]

/-- Minima over the words from `p` on are picks from the set of the words' ranks, as long as there are 27
different ranks, all small. -/
theorem fold_picks (y : ι → BitVec 32) (P O : ℕ → BitVec 32) (g : Fin 27 → ι) (hg : Function.Injective fun i => rk (y (g i)))
    (hlt : ∀ c, rk (y c) < 2147483648) (h0 : (P 0).toNat = 0) (hO : ∀ n, O n = Finset.univ.fold IKind.minsi.op 2147483647#32 (fun c => y c - P n) + 2147483648#32 + P n)
    (hP : ∀ n, (O n).toNat < 4294967295 → (P (n + 1)).toNat = (O n).toNat + 1) :
    (∀ n, (∃ c, (O n).toNat = rk (y c)) → (P (n + 1)).toNat = (O n).toNat + 1) ∧
    ∀ n < 27, IsPick (fun s => ∃ c, s = rk (y c)) (fun n => (P n).toNat) (fun n => (O n).toNat) n := by
  have pn : ∀ n, (∃ c, (O n).toNat = rk (y c)) → (P (n + 1)).toNat = (O n).toNat + 1 := fun n ⟨c, hc⟩ =>
    hP n (by have := hlt c; omega)
  refine ⟨pn, picks (S := fun s => ∃ c, s = rk (y c)) (p := fun n => (P n).toNat) (o := fun n => (O n).toNat) (N := 27) (fun i => rk (y (g i))) hg (fun i => ⟨g i, rfl⟩) h0 pn (fun n hex => ?_)⟩
  obtain ⟨s, ⟨c, hs⟩, hp⟩ := hex
  rw [hs] at hp
  obtain ⟨c', -, e1, e2, e3⟩ := pick_spec Finset.univ y (P n) ⟨c, Finset.mem_univ _, hp⟩
  have he : (O n).toNat = rk (y c') := by rw [hO]; exact e1
  refine ⟨⟨c', he⟩, e2.trans_eq he.symm, ?_⟩
  rintro s ⟨c'', hc⟩ hs
  rw [hc] at hs ⊢
  exact he.trans_le (e3 c'' (Finset.mem_univ _) hs)

/-- Lanes' five minima hold keys of the row's columns, each of its own lane. -/
def Holds (L : Lv) (K : Fin 20480 → ℕ) (r : Fin 160) : Prop :=
  ∀ (l : Fin 128) y, In L (ix2 r l) y → ∃ c : Fin 20480, c.1 % 128 = l.1 ∧ rk y = K c

/-- A word that is one of the five minima of a lane is a candidate. -/
theorem in_cand {L : Lv} {r : Fin 160} {l : Fin 128} {y : BitVec 32} (h : In L (ix2 r l) y) : ∃ q, y = cands L (ix2 r q) := by
  have key : ∀ k : Fin 5, (![L.a, L.b, L.c, L.d, L.e] k) (ix2 r l) = cands L (ix2 r ⟨128 * k.1 + l.1, by omega⟩) := fun k => by
    rw [cands_at]
    have h1 : (⟨(128 * k.1 + l.1) / 128, by omega⟩ : Fin 5) = k := Fin.ext (by simp only; omega)
    have h2 : (⟨(128 * k.1 + l.1) % 128, Nat.mod_lt _ (by decide)⟩ : Fin 128) = l := Fin.ext (by simp only; omega)
    simp only [h1, h2]
  rcases h with h | h | h | h | h
  · exact ⟨_, h.trans (key 0)⟩
  · exact ⟨_, h.trans (key 1)⟩
  · exact ⟨_, h.trans (key 2)⟩
  · exact ⟨_, h.trans (key 3)⟩
  · exact ⟨_, h.trans (key 4)⟩

/-- Every candidate is the key of a column. -/
theorem cand_mem {L : Lv} {K : Fin 20480 → ℕ} {r : Fin 160} (h : Holds L K r) (q : Fin 640) : ∃ c, rk (cands L (ix2 r q)) = K c := by
  rw [cands_at]
  have hIn : In L (ix2 r ⟨q.1 % 128, Nat.mod_lt _ (by decide)⟩) ((![L.a, L.b, L.c, L.d, L.e] ⟨q.1 / 128, by omega⟩) (ix2 r ⟨q.1 % 128, Nat.mod_lt _ (by decide)⟩)) := by
    generalize (⟨q.1 / 128, by omega⟩ : Fin 5) = k
    fin_cases k
    · exact .inl rfl
    · exact .inr (.inl rfl)
    · exact .inr (.inr (.inl rfl))
    · exact .inr (.inr (.inr (.inl rfl)))
    · exact .inr (.inr (.inr (.inr rfl)))
  obtain ⟨c, -, e⟩ := h _ _ hIn
  exact ⟨c, e⟩

/-- The picks from the candidates are picks from the row's keys, where every key that is no candidate is
above the last pick. -/
theorem fast (L : Lv) (K : Fin 20480 → ℕ) (r : Fin 160) (h : Holds L K r) (hinj : Function.Injective K) (hlt : ∀ c, K c < 2147483648)
    (hcov : ∀ c, (∃ q, K c = rk (cands L (ix2 r q))) ∨ (oF (cands L) 26 (ix2 r 0)).toNat ≤ K c) :
    ∃ σ : Fin 27 → Fin 20480, (∀ n : Fin 27, (oF (cands L) n.1 (ix2 r 0)).toNat = K (σ n)) ∧
      (∀ i j, i < j → K (σ i) < K (σ j)) ∧ ∀ q, (∀ j, σ j ≠ q) → ∀ i, K (σ i) < K q := by
  have hc := cand_mem h
  have ha : ∀ l : Fin 128, ∃ q, L.a (ix2 r l) = cands L (ix2 r q) := fun l => in_cand (.inl rfl)
  generalize cands L = C at *
  choose g hg using ha
  have hO := fun n => oF_at C n r
  have h0 := pF_zero C (ix2 r 0)
  have hP : ∀ n, (oF C n (ix2 r 0)).toNat < 4294967295 → (pF C (n + 1) (ix2 r 0)).toNat = (oF C n (ix2 r 0)).toNat + 1 :=
    fun n hn => by rw [pF_succ]; exact nxt_at _ r hn
  have hS : ∀ i : Fin 27, i.1 < 26 + 1 := fun i => i.2
  generalize hFO : (fun n => oF C n (ix2 r 0)) = O
  generalize hFP : (fun n => pF C n (ix2 r 0)) = P
  have eO : ∀ n, oF C n (ix2 r 0) = O n := fun n => congrFun hFO n
  have eP : ∀ n, pF C n (ix2 r 0) = P n := fun n => congrFun hFP n
  simp only [eO, eP] at *
  obtain ⟨pn, hp⟩ := fold_picks (fun q : Fin 640 => C (ix2 r q)) P O (fun i => g ⟨i.1, by omega⟩) (fun i j e => by
      obtain ⟨c, hc, e1⟩ := h ⟨i.1, by omega⟩ _ (.inl rfl)
      obtain ⟨c', hc', e2⟩ := h ⟨j.1, by omega⟩ _ (.inl rfl)
      simp only [← hg] at e
      rw [e1, e2] at e
      rw [hinj e] at hc
      exact Fin.ext (hc.symm.trans hc')) (fun q => by obtain ⟨c, e⟩ := hc q; rw [e]; exact hlt c) h0 hO hP
  have hp' := picks_mono (S := fun s => ∃ c, s = K c) (N := 26) pn hp (fun s ⟨q, hq⟩ => by
      obtain ⟨c, hc⟩ := hc q; exact ⟨c, hq.trans hc⟩) (fun s ⟨c, hs⟩ => hs ▸ hcov c)
  exact select K hinj (p := fun n => (P n).toNat) (o := fun n => (O n).toNat) h0 (fun n ⟨c, hc⟩ => hP n (by have := hlt c; omega)) hp'

/-- The picks from all columns are picks from the row's keys. -/
theorem slow (x : IVec S160x20480 32) (K : Fin 20480 → ℕ) (r : Fin 160) (hx : ∀ c, rk (x (ix2 r c)) = K c)
    (hinj : Function.Injective K) (hlt : ∀ c, K c < 2147483648) :
    ∃ σ : Fin 27 → Fin 20480, (∀ n : Fin 27, (oS x n.1 (ix2 r 0)).toNat = K (σ n)) ∧
      (∀ i j, i < j → K (σ i) < K (σ j)) ∧ ∀ q, (∀ j, σ j ≠ q) → ∀ i, K (σ i) < K q := by
  have hO := fun n => oS_at x n r
  have h0 := pS_zero x (ix2 r 0)
  have hP : ∀ n, (oS x n (ix2 r 0)).toNat < 4294967295 → (pS x (n + 1) (ix2 r 0)).toNat = (oS x n (ix2 r 0)).toNat + 1 :=
    fun n hn => by rw [pS_succ]; exact nxt_at _ r hn
  generalize hFO : (fun n => oS x n (ix2 r 0)) = O
  generalize hFP : (fun n => pS x n (ix2 r 0)) = P
  have eO : ∀ n, oS x n (ix2 r 0) = O n := fun n => congrFun hFO n
  have eP : ∀ n, pS x n (ix2 r 0) = P n := fun n => congrFun hFP n
  simp only [eO, eP] at *
  obtain ⟨pn, hp⟩ := fold_picks (fun c : Fin 20480 => x (ix2 r c)) P O (fun i => ⟨i.1, by omega⟩) (fun i j e => by
      simp only [hx] at e
      have := hinj e
      exact Fin.ext (Fin.mk.inj this)) (fun q => by rw [hx]; exact hlt q) h0 hO hP
  simp only [hx] at hp
  exact select K hinj (p := fun n => (P n).toNat) (o := fun n => (O n).toNat) h0 (fun n ⟨c, hc⟩ => hP n (by have := hlt c; omega)) hp

/-- The twenty-seven words that the body stores for a row are the twenty-seven least keys of the row in
order: column `σ i` is the `i`-th, and every column not among them has a larger key. The lane of a column
is its remainder by 128, and so is the key's. -/
theorem row_select (x : IVec S160x20480 32) (K : Fin 20480 → ℕ) (r : Fin 160) (hx : ∀ c, rk (x (ix2 r c)) = K c)
    (hinj : Function.Injective K) (hlt : ∀ c, K c < 2147483648) :
    ∃ σ : Fin 27 → Fin 20480,
      (∀ n, ((if sus (F := Ideal) (lev x 155) = 1#1 then row27 (oS x) else row27 (oF (cands (lev x 155)))) (ix2 r n)).toNat = K (σ n)) ∧
      (∀ i j, i < j → K (σ i) < K (σ j)) ∧ ∀ q, (∀ j, σ j ≠ q) → ∀ i, K (σ i) < K q := by
  have hm := lev_mem x
  have hcov := lev_cov x
  replace hm := fun i => hm i 155
  replace hcov := fun i => hcov i 155
  generalize lev x 155 = L at *
  by_cases hs : sus (F := Ideal) L = 1#1
  · obtain ⟨σ, h1, h2, h3⟩ := slow x K r hx hinj hlt
    exact ⟨σ, fun n => by rw [if_pos hs, row27_at]; exact h1 n, h2, h3⟩
  · obtain ⟨σ, h1, h2, h3⟩ := fast L K r (fun l y hy => by
      obtain ⟨k, hk, e⟩ := hm _ _ hy
      rw [e, sl_at x k (by omega), hx]
      exact ⟨_, by simp only; omega, rfl⟩) hinj hlt (fun c => by
      have hl := not_sus L hs r ⟨c.1 % 128, Nat.mod_lt _ (by decide)⟩
      rw [rk_add_min] at hl
      have he : sl x (c.1 / 128) (ix2 r ⟨c.1 % 128, Nat.mod_lt _ (by decide)⟩) = x (ix2 r c) := by
        rw [sl_at x _ (by omega)]
        exact congrArg (fun c => x (ix2 r c)) (Fin.ext (by simp only; omega))
      rcases hcov (ix2 r ⟨c.1 % 128, Nat.mod_lt _ (by decide)⟩) (c.1 / 128) (by omega) with hi | hi
      · obtain ⟨q, hq⟩ := in_cand hi
        exact .inl ⟨q, by rw [← hx, ← he, hq]⟩
      · rw [he, hx] at hi
        exact .inr (by omega))
    exact ⟨σ, fun n => by rw [if_neg hs, row27_at]; exact h1 n, h2, h3⟩

end Cert.Knn
-- ==== Proof.Keys.lean ====
module

public import proofs.«01_k».proof.Proof.KnnSel
public import Idealize.ShloMosaic.Lib.IntMxu

/-! # The keys of the neighbour body

A key is the squared distance of a row's point to a column's times 32768, plus the column. -/

set_option maxRecDepth 16384

@[expose] public section

noncomputable section

namespace Cert.Knn

open Cert.KernelIdeal Cert.KernelIdeal.Gen Idealize.ShloMosaic Idealize.SL.Sem Cert.Row

/-- Coordinate `j` of point `p`. -/
def crd (A : IVec S20000x4 32) (p : Fin 20000) (j : Fin 3) : ℕ := (A (ix2 p j.succ)).toNat

/-- The sum of the squares of a point's coordinates. -/
def sq (A : IVec S20000x4 32) (p : Fin 20000) : ℕ := crd A p 0 * crd A p 0 + crd A p 1 * crd A p 1 + crd A p 2 * crd A p 2

/-- The sum of the products of two points' coordinates. -/
def dot (A : IVec S20000x4 32) (p q : Fin 20000) : ℕ := crd A p 0 * crd A q 0 + crd A p 1 * crd A q 1 + crd A p 2 * crd A q 2

/-- The squared distance of two points. -/
def dist (A : IVec S20000x4 32) (p q : Fin 20000) : ℕ := sq A p + sq A q - 2 * dot A p q

/-- What the body adds to a row's sum of squares for a column: a point's sum of squares, or 30000. -/
def cc (A : IVec S20000x4 32) (c : Fin 20480) : ℕ := if h : c.1 < 20000 then sq A ⟨c.1, h⟩ else 30000

/-- What the body subtracts twice: the sum of products with the column's point, or nothing. -/
def ds (A : IVec S20000x4 32) (p : Fin 20000) (c : Fin 20480) : ℕ := if h : c.1 < 20000 then dot A p ⟨c.1, h⟩ else 0

/-- The key of a column in a point's row. -/
def key (A : IVec S20000x4 32) (p : Fin 20000) (c : Fin 20480) : ℕ := (sq A p + cc A c - 2 * ds A p c) * 32768 + c.1

/-- The coordinates are from 0 to 63. -/
def Small (A : IVec S20000x4 32) : Prop := ∀ p j, crd A p j < 64

variable {A : IVec S20000x4 32}

/-- A product of two numbers below 64, twice, is not above the sum of their squares, which is below 7939. -/
theorem prod_le (a b : ℕ) : 2 * (a * b) ≤ a * a + b * b := by
  rcases Nat.le_total a b with h | h
  · obtain ⟨d, rfl⟩ := Nat.exists_eq_add_of_le h
    ring_nf; omega
  · obtain ⟨d, rfl⟩ := Nat.exists_eq_add_of_le h
    ring_nf; omega

theorem sq_le (h : Small A) (p) : sq A p ≤ 11907 := by
  have h0 := Nat.mul_le_mul (Nat.le_of_lt_succ (h p 0)) (Nat.le_of_lt_succ (h p 0))
  have h1 := Nat.mul_le_mul (Nat.le_of_lt_succ (h p 1)) (Nat.le_of_lt_succ (h p 1))
  have h2 := Nat.mul_le_mul (Nat.le_of_lt_succ (h p 2)) (Nat.le_of_lt_succ (h p 2))
  unfold sq; omega

theorem dot_le (p q : Fin 20000) : 2 * dot A p q ≤ sq A p + sq A q := by
  have h0 := prod_le (crd A p 0) (crd A q 0)
  have h1 := prod_le (crd A p 1) (crd A q 1)
  have h2 := prod_le (crd A p 2) (crd A q 2)
  unfold sq dot; omega

theorem ds_le (p : Fin 20000) (c : Fin 20480) : 2 * ds A p c ≤ sq A p + cc A c := by
  unfold ds cc; split
  · exact dot_le _ _
  · omega

theorem cc_le (h : Small A) (c : Fin 20480) : cc A c ≤ 30000 := by
  unfold cc; split
  · exact (sq_le h _).trans (by decide)
  · exact Nat.le_refl _

/-- The key of a point's column. -/
theorem key_lt {p : Fin 20000} {c : Fin 20480} (hc : c.1 < 20000) : key A p c = dist A p ⟨c.1, hc⟩ * 32768 + c.1 := by
  unfold key cc ds dist; rw [dif_pos hc, dif_pos hc]

/-- The key of a column that stands for no point is above every key of a point. -/
theorem key_ge {p : Fin 20000} {c : Fin 20480} (hc : ¬ c.1 < 20000) : 30000 * 32768 ≤ key A p c := by
  unfold key cc ds; rw [dif_neg hc, dif_neg hc]; omega

theorem dist_le (h : Small A) (p q : Fin 20000) : dist A p q ≤ 23814 := by
  have := sq_le h p; have := sq_le h q
  unfold dist; omega

theorem key_small (h : Small A) (p : Fin 20000) (c : Fin 20480) : key A p c < 2147483648 := by
  have := sq_le h p; have := cc_le h c; have := c.2
  unfold key; omega

theorem key_inj (p : Fin 20000) : Function.Injective (key A p) := fun c c' e => by
  unfold key at e
  exact Fin.ext (by have := c.2; have := c'.2; omega)

/-- The body's word arithmetic gives the key, when its inputs hold the numbers they stand for. -/
theorem rk_key (h : Small A) (p : Fin 20000) (c : Fin 20480) (a b s i : BitVec 32) (ha : a.toNat = sq A p) (hb : b.toNat = cc A c)
    (hs : s.toNat = ds A p c) (hi : i.toNat = c.1) :
    rk ((a + (b - 2#32 * s)) * 32768#32 + i + 2147483648#32) = key A p c := by
  have h1 := sq_le h p; have h2 := cc_le h c; have h3 := ds_le (A := A) p c; have h4 := c.2
  have ht : ((a + (b - 2#32 * s)) * 32768#32 + i).toNat = key A p c := by
    have e1 : (2#32 * s).toNat = 2 * ds A p c := by
      rw [BitVec.toNat_mul, hs]
      change 2 * ds A p c % 4294967296 = _
      omega
    have e2 : (a + (b - 2#32 * s)).toNat = sq A p + cc A c - 2 * ds A p c := by
      rw [BitVec.toNat_add, BitVec.toNat_sub, e1, ha, hb]
      change (sq A p + (4294967296 - 2 * ds A p c + cc A c) % 4294967296) % 4294967296 = _
      omega
    rw [BitVec.toNat_add, BitVec.toNat_mul, e2, hi]
    change ((sq A p + cc A c - 2 * ds A p c) * 32768 % 4294967296 + c.1) % 4294967296 = _
    unfold key
    omega
  rw [rk_add_min, ht]

/-- The integer product of two blocks, at an entry: the sum over the three coordinates. -/
theorem dot_at (x : IVec S160x3 8) (y : IVec S3x20480 8) (acc : IVec S160x20480 32) (h0 : ∀ j, acc j = 0) (r : Fin 160) (c : Fin 20480) :
    matmulI8 IntMxuNumerics.v7x dot_S160x3_S3x20480_S160x20480_1_0_0_1_n_n x y acc (ix2 r c)
      = BitVec.ofInt 32 (∑ k : Fin 3, (x (ix2 r k)).toInt * (y (ix2 k c)).toInt) := by
  rw [matmulI8_exact_of_numel _ _ _ _ _ _ (h0 _) (by decide)]
  unfold dotI8
  rw [DotDims.sum_contr₁ _ (a := 1) rfl (K := 3) rfl]
  refine congrArg _ (Finset.sum_congr rfl fun k _ => ?_)
  have e1 : dot_S160x3_S3x20480_S160x20480_1_0_0_1_n_n.lhsIdx (ix2 r c) (dot_S160x3_S3x20480_S160x20480_1_0_0_1_n_n.contrIdx₁ (a := 1) rfl (K := 3) rfl k) = ix2 r k := by
    funext a; match a with | 0 => rfl | 1 => rfl
  have e2 : dot_S160x3_S3x20480_S160x20480_1_0_0_1_n_n.rhsIdx (ix2 r c) (dot_S160x3_S3x20480_S160x20480_1_0_0_1_n_n.contrIdx₁ (a := 1) rfl (K := 3) rfl k) = ix2 k c := by
    funext a; match a with | 0 => rfl | 1 => rfl
  rw [e1, e2]

/-- A coordinate below 64 cut to eight bits is itself, read with a sign. -/
theorem trunc_small (u : BitVec 32) (h : u.toNat < 64) : (u.setWidth 8).toInt = u.toNat := by
  have h1 : (u.setWidth 8).toNat = u.toNat := by
    rw [BitVec.toNat_setWidth]; exact Nat.mod_eq_of_lt (by omega)
  rw [BitVec.toInt_eq_toNat_of_lt (by omega), h1]

/-- The keys that the body computes from blocks that hold what they should. -/
theorem keys (h : Small A) (p : Fin 20000) (r : Fin 160) (x0 : Vec Ideal S160x3 .i8) (x1 : Vec Ideal S3x20480 .i8) (x2 : Vec Ideal S160x1 .i32) (x3 : Vec Ideal S1x20480 .i32)
    (h0 : ∀ j, x0 (ix2 r j) = (A (ix2 p j.succ)).setWidth 8)
    (h1 : ∀ j (c : Fin 20480), x1 (ix2 j c) = if h : c.1 < 20000 then (A (ix2 ⟨c.1, h⟩ j.succ)).setWidth 8 else 0#8)
    (h2 : (x2 (ix2 r 0) : BitVec 32).toNat = sq A p) (h3 : ∀ c, (x3 (ix2 0 c) : BitVec 32).toNat = cc A c) (c : Fin 20480) :
    rk (k1_pay83 (F := Ideal) x0 x1 x2 x3 (ix2 r c)) = key A p c := by
  have hd : (matmulI8 IntMxuNumerics.v7x dot_S160x3_S3x20480_S160x20480_1_0_0_1_n_n x0 x1 (constantI S160x20480 32 0#32) (ix2 r c)).toNat = ds A p c := by
    rw [dot_at x0 x1 (constantI S160x20480 32 0#32) (fun _ => rfl) r c]
    have e : (∑ k : Fin 3, (x0 (ix2 r k) : BitVec 8).toInt * (x1 (ix2 k c) : BitVec 8).toInt) = (ds A p c : ℤ) := by
      simp only [h0, h1]
      unfold ds
      split
      · simp only [trunc_small _ (h _ _), Fin.sum_univ_three]
        unfold dot crd
        push_cast
        rfl
      · simp
    rw [e, BitVec.ofInt_natCast, BitVec.toNat_ofNat]
    have := ds_le (A := A) p c; have := sq_le h p; have := cc_le h c
    exact Nat.mod_eq_of_lt (by omega)
  have hi : (BitVec.ofNat 32 c.1).toNat = c.1 := by
    rw [BitVec.toNat_ofNat]; exact Nat.mod_eq_of_lt (by have := c.2; omega)
  rw [← rk_key h p c (x2 (ix2 r 0)) (x3 (ix2 0 c)) _ (BitVec.ofNat 32 c.1) h2 (h3 c) hd hi]
  unfold k1_pay83
  simp only [shapeCast_self]
  generalize matmulI8 IntMxuNumerics.v7x dot_S160x3_S3x20480_S160x20480_1_0_0_1_n_n x0 x1 (constantI S160x20480 32 0#32) = R
  pointwise
  rfl

end Cert.Knn
-- ==== Proof.Nbr.lean ====
module

public import proofs.«01_k».proof.Proof.Keys
public import Idealize.ShloMosaic.Lib.SortPrefix

/-! # The neighbours of a point

The points in the order of their squared distance to a point, points of one distance in the order of their numbers. -/

set_option maxRecDepth 16384

@[expose] public section

noncomputable section

namespace Cert.Knn

open Cert.KernelIdeal Cert.KernelIdeal.Gen Idealize.ShloMosaic Idealize.SL.Sem Cert.Row

attribute [local irreducible] rk sq dot

/-- A point's squared distance times 32768, plus its number. -/
def nkey (A : IVec S20000x4 32) (p q : Fin 20000) : ℕ := dist A p q * 32768 + q.1

/-- The order of the points by that number. -/
def before (A : IVec S20000x4 32) (p : Fin 20000) (a b : Fin 20000) : Bool := decide (nkey A p a < nkey A p b)

/-- The 27 first points in that order. -/
def nb (A : IVec S20000x4 32) (p : Fin 20000) (n : Fin 27) : Fin 20000 :=
  sortedFrom (before A p) (n.castLE (by decide : 27 ≤ 20000))

variable {A : IVec S20000x4 32}

theorem nkey_inj {p a b : Fin 20000} (h : nkey A p a = nkey A p b) : a = b := by
  have ha := a.2; have hb := b.2
  unfold nkey at h
  exact Fin.ext (by omega)

theorem before_total (p : Fin 20000) : StrictTotalBefore (before A p) where
  irrefl a := by simp [before]
  trans a b c h h' := by simp only [before, decide_eq_true_eq] at *; omega
  total a b h := by
    simp only [before, decide_eq_true_eq]
    have : nkey A p a ≠ nkey A p b := fun e => h (nkey_inj e)
    omega

/-- Among 28 points there is one that 27 picks leave out. -/
theorem left_out (σ : Fin 27 → Fin 20480) : ∃ c : Fin 20480, c.1 < 20000 ∧ ∀ j, σ j ≠ c := by
  by_contra hne
  have hall : ∀ c : Fin 28, ∃ j, σ j = ⟨c.1, by have := c.2; omega⟩ := fun c => by
    by_contra h
    exact hne ⟨⟨c.1, by have := c.2; omega⟩, by have := c.2; show c.1 < 20000; omega, fun j e => h ⟨j, e⟩⟩
  choose f hf using hall
  have : Function.Injective f := fun a b e => by
    have h := (hf a).symm.trans ((congrArg σ e).trans (hf b))
    exact Fin.ext (Fin.mk.inj h)
  have := Fintype.card_le_of_injective f this
  simp at this

/-- Ascending picks of the least keys of a row are the row's neighbours. -/
theorem picks (h : Small A) (p : Fin 20000) (σ : Fin 27 → Fin 20480) (hord : ∀ i j, i < j → key A p (σ i) < key A p (σ j))
    (hdom : ∀ q, (∀ j, σ j ≠ q) → ∀ i, key A p (σ i) < key A p q) (n : Fin 27) :
    key A p (σ n) = nkey A p (nb A p n) := by
  obtain ⟨c, hc, hout⟩ := left_out σ
  have hlt : ∀ i, (σ i).1 < 20000 := fun i => by
    by_contra hi
    have h1 := hdom c hout i
    have h2 := key_ge (A := A) (p := p) hi
    have h3 := key_lt (A := A) (p := p) hc
    have h4 := dist_le h p ⟨c.1, hc⟩
    omega
  have hk : ∀ i, key A p (σ i) = nkey A p ⟨(σ i).1, hlt i⟩ := fun i => key_lt (hlt i)
  have hs : nb A p n = ⟨(σ n).1, hlt n⟩ := by
    refine StrictTotalBefore.sortedFrom_eq_of_prefix (before_total p) (by decide) (fun i => ⟨(σ i).1, hlt i⟩) ?_ ?_ ?_ n
    · intro a b e
      by_contra hab
      have e' : σ a = σ b := Fin.ext (Fin.mk.inj e)
      rcases Nat.lt_or_gt_of_ne (fun e => hab (Fin.ext e) : a.1 ≠ b.1) with g | g
      · exact absurd (hord a b g) (by rw [e']; omega)
      · exact absurd (hord b a g) (by rw [e']; omega)
    · intro i j hij
      have := hord i j hij
      rw [hk, hk] at this
      simp only [before, decide_eq_false_iff_not]
      omega
    · intro i q hq
      have := hdom ⟨q.1, by have := q.2; omega⟩ (fun j e => hq j (Fin.ext (Fin.ext_iff.mp e :))) i
      rw [hk, key_lt (c := ⟨q.1, _⟩) q.2] at this
      simp only [before, decide_eq_false_iff_not]
      exact Nat.not_lt.mpr (Nat.le_of_lt this)
  rw [hk, hs]

/-! ## Stable sorts -/

/-- Two relations that agree on a later and an earlier place sort an ascending list alike. -/
theorem stable_congr {n : ℕ} (R R' : Fin n → Fin n → Bool) (h : ∀ a b, a < b → R b a = R' b a) (l : List (Fin n))
    (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- Sorts of one order of places are one. -/
theorem sorted_of_positions {n : ℕ} {R R' : Fin n → Fin n → Bool} (h : sortPositions n R = sortPositions n R') :
    sortedFrom R = sortedFrom R' := by
  funext k
  unfold sortedFrom
  rw [List.get_of_eq h]
  rfl

/-- A stable sort by the distances alone is the order of the neighbours. -/
theorem stable_before (p : Fin 20000) (R : Fin 20000 → Fin 20000 → Bool)
    (hR : ∀ a b, R a b = true ↔ dist A p a < dist A p b) : sortedFrom R = sortedFrom (before A p) := by
  have : sortPositions 20000 R = sortPositions 20000 (before A p) :=
    stable_congr _ _ (fun a b hab => by
      have : a.1 < b.1 := hab
      have hb := b.2
      have hd : before A p b a = true ↔ nkey A p b < nkey A p a := decide_eq_true_iff
      rw [Bool.eq_iff_iff, hR, hd]
      unfold nkey
      omega) _ (List.pairwise_lt_finRange _)
  exact sorted_of_positions this

end Cert.Knn
-- ==== Proof.Host.lean ====
module

public import proofs.«01_k».proof.Proof.Nbr
public import proofs.«01_k».proof.Proof.Gen.KernelIdeal.Launch
public import Idealize.ShloMosaic.Lib.Claim
public import Idealize.ShloMosaic.Lib.Pipeline.ValueKit

/-! # The arrays that the neighbour region reads

The coordinates in 8 bits, by rows and by columns, and the sums of squares, by rows and by columns. -/

set_option maxRecDepth 16384

@[expose] public section

noncomputable section

namespace Cert.Knn

open Cert.KernelIdeal Cert.KernelIdeal.Gen Idealize.ShloMosaic Idealize.ShloMosaic.TcCoe Idealize.SL.Sem Cert.Row

variable (V : Valuation τ sig (Elt Ideal))

/-- The coordinates. -/
def co (A : IVec S20000x4 32) : IVec S20000x3 32 := extractStridedSlice S20000x3 ![0, 1] A slices_S20000x4_S20000x3_0_1

/-- The sums of squares. -/
def sums (A : IVec S20000x4 32) : IVec S20000 32 :=
  Host.reduce IntOp.addi (muli (co A) (co A)) (constantI S_ 32 0#32) reducesTo_S20000x3_S20000_d1 h_S_

theorem co_at (A : IVec S20000x4 32) (p : Fin 20000) (j : Fin 3) : co A (ix2 p j) = A (ix2 p j.succ) := by
  unfold co
  pointwise
  blk_ext
  simp [Nat.add_comm]

theorem rows_eq : StableHlo.after (hostOps1 (F := Ideal)) V (Proc.devRef .tc main_v5)
    = trunci 8 (co (V (Proc.devRef .tc main_arg0))) natLt_8_32 := by after_results; rfl

theorem cols_eq : StableHlo.after (hostOps1 (F := Ideal)) V (Proc.devRef .tc main_v8)
    = concatenate S3x20480 1 [⟨S3x20000, transpose S3x20000 [1, 0] (trunci 8 (co (V (Proc.devRef .tc main_arg0))) natLt_8_32)
        transposes_S20000x3_S3x20000_1_0⟩, ⟨S3x480, broadcastInDim S3x480 ![] bcast_S_S3x480 (constantI S_ 8 0#8)⟩]
        concatenates_S3x20000_S3x480_S3x20480_d1 := by after_results; rfl

theorem row_sums_eq : StableHlo.after (hostOps1 (F := Ideal)) V (Proc.devRef .tc main_v13)
    = broadcastInDim S20000x1 ![0] bcast_S20000_S20000x1_0 (sums (V (Proc.devRef .tc main_arg0))) := by after_results; rfl

theorem col_sums_eq : StableHlo.after (hostOps1 (F := Ideal)) V (Proc.devRef .tc main_v14)
    = broadcastInDim S1x20480 ![1] bcast_S20480_S1x20480_1 (concatenate S20480 0 [⟨S20000, sums (V (Proc.devRef .tc main_arg0))⟩,
        ⟨S480, broadcastInDim S480 ![] bcast_S_S480 (constantI S_ 32 30000#32)⟩] concatenates_S20000_S480_S20480_d0) := by
  after_results; rfl

variable {A : IVec S20000x4 32}

theorem rows_at (p : Fin 20000) (j : Fin 3) : trunci 8 (co A) natLt_8_32 (ix2 p j) = (A (ix2 p j.succ)).setWidth 8 := by
  show (co A (ix2 p j)).setWidth 8 = _
  rw [co_at]

theorem cols_at (j : Fin 3) (c : Fin 20480) :
    concatenate S3x20480 1 [⟨S3x20000, transpose S3x20000 [1, 0] (trunci 8 (co A) natLt_8_32) transposes_S20000x3_S3x20000_1_0⟩,
        ⟨S3x480, broadcastInDim S3x480 ![] bcast_S_S3x480 (constantI S_ 8 0#8)⟩] concatenates_S3x20000_S3x480_S3x20480_d1 (ix2 j c)
      = if h : c.1 < 20000 then (A (ix2 ⟨c.1, h⟩ j.succ)).setWidth 8 else 0#8 := by
  by_cases h : c.1 < 20000
  · rw [dif_pos h, ← rows_at]
    refine (concatenate_pair_apply_left (s₁ := S3x20000) (s₂ := S3x480) (t := S3x20480) 1 _ _ _ (ix2 j c) rfl
      (ix2 j (⟨c.1, h⟩ : Fin 20000)) ?_).trans ?_
    · intro b; fin_cases b <;> rfl
    · pointwise
  · rw [dif_neg h]
    refine (concatenate_pair_apply_right (s₁ := S3x20000) (s₂ := S3x480) (t := S3x20480) 1 _ _ _ (ix2 j c) rfl rfl
      (ix2 j (⟨c.1 - 20000, by have := c.2; omega⟩ : Fin 480)) ?_ ?_).trans rfl
    · intro b hb
      fin_cases b
      · rfl
      · exact absurd rfl hb
    · show c.1 - 20000 + 20000 = c.1
      omega

/-- A fold over three places. -/
theorem fold_three {α : Type} (f : α → α → α) [Std.Commutative f] [Std.Associative f] (b : α) (g : Fin 3 → α) :
    (Finset.univ : Finset (Fin 3)).fold f b g = f (g 0) (f (g 1) (f (g 2) b)) := by
  simp [Fin.univ_succ]

theorem last_axis : S20000x3.Reduces [1] S20000 := by decide

theorem sums_at (h : Small A) (p : Fin 20000) : (sums A (ix1 p)).toNat = sq A p := by
  unfold sums
  rw [Host.reduce_eq_fold_single _ _ _ _ last_axis]
  refine (congrArg BitVec.toNat (fold_three _ _ _)).trans ?_
  have hl : ∀ k : Fin 3, (muli (co A) (co A) ∘ last_axis.lift (ix1 p)) k
      = A (ix2 p k.succ) * A (ix2 p k.succ) := fun k => by
    rw [← co_at A p k]
    have : last_axis.lift (ix1 p) k = ix2 p k := by
      funext a; fin_cases a <;> rfl
    show muli (co A) (co A) _ = _
    rw [this]; rfl
  have h0 : crd A p 0 < 64 := h p 0
  have h1 : crd A p 1 < 64 := h p 1
  have h2 : crd A p 2 < 64 := h p 2
  have g0 := Nat.mul_le_mul (Nat.le_of_lt h0) (Nat.le_of_lt h0)
  have g1 := Nat.mul_le_mul (Nat.le_of_lt h1) (Nat.le_of_lt h1)
  have g2 := Nat.mul_le_mul (Nat.le_of_lt h2) (Nat.le_of_lt h2)
  rw [hl 0, hl 1, hl 2]
  show (A _ * A _ + (A _ * A _ + (A _ * A _ + 0#32))).toNat = _
  unfold sq
  unfold crd at *
  simp only [BitVec.toNat_add, BitVec.toNat_mul, BitVec.toNat_ofNat]
  omega

theorem row_sums_at (h : Small A) (p : Fin 20000) (j : Fin 1) :
    (broadcastInDim S20000x1 ![0] bcast_S20000_S20000x1_0 (sums A) (ix2 p j)).toNat = sq A p := by
  rw [← sums_at h]
  pointwise

theorem col_sums_at (h : Small A) (j : Fin 1) (c : Fin 20480) :
    (broadcastInDim S1x20480 ![1] bcast_S20480_S1x20480_1 (concatenate S20480 0 [⟨S20000, sums A⟩,
        ⟨S480, broadcastInDim S480 ![] bcast_S_S480 (constantI S_ 32 30000#32)⟩] concatenates_S20000_S480_S20480_d0)
      (ix2 j c)).toNat = cc A c := by
  have e : ∀ x : IVec S20480 32, broadcastInDim S1x20480 ![1] bcast_S20480_S1x20480_1 x (ix2 j c) = x (ix1 c) := fun x => by
    pointwise
  rw [e]
  unfold cc
  by_cases hc : c.1 < 20000
  · rw [dif_pos hc, ← sums_at h]
    refine congrArg BitVec.toNat (concatenate_pair_apply_left (s₁ := S20000) (s₂ := S480) (t := S20480) 0 _ _ _ (ix1 c) rfl
      (ix1 (⟨c.1, hc⟩ : Fin 20000)) ?_)
    intro b; fin_cases b; rfl
  · rw [dif_neg hc]
    refine (congrArg BitVec.toNat (concatenate_pair_apply_right (s₁ := S20000) (s₂ := S480) (t := S20480) 0 _ _ _ (ix1 c)
      rfl rfl (ix1 (⟨c.1 - 20000, by have := c.2; omega⟩ : Fin 480)) ?_ ?_)).trans rfl
    · intro b hb
      fin_cases b
      exact absurd rfl hb
    · show c.1 - 20000 + 20000 = c.1
      omega

end Cert.Knn
-- ==== Proof.KnnArr.lean ====
module

public import proofs.«01_k».proof.Proof.Host
public import proofs.«01_k».proof.Proof.Run

/-! # The neighbour region's result array

Row `p` of the array holds the keys of the 27 neighbours of point `p`, in their order. -/

set_option maxRecDepth 16384

@[expose] public section

noncomputable section

namespace Cert.Knn

open Cert.KernelIdeal Cert.KernelIdeal.Gen Idealize.ShloMosaic Idealize.ShloMosaic.TcCoe Idealize.SL.Sem Cert.Row
open Idealize.ShloMosaic.Pipeline (Dat)

/-- The blocks: rows 160 t to 160 t + 159 of the arrays that go by rows, and the whole of the others. -/
theorem places : ∀ t : Fin cfg1.N, win1_0.index t = ![t.val, 0] ∧ win1_1.index t = ![0, 0] ∧ win1_2.index t = ![t.val, 0]
    ∧ win1_3.index t = ![0, 0] ∧ win1_4.index t = ![t.val, 0] ∧ t.val < 125 :=
  (by decide +kernel : ∀ t : Fin grid1.N, _)

section blocks
variable (V : (c : Dev nD) → (b : Ref sig .tc) → Buf (Elt Ideal) ((c : Thread nD τ).loc b)) (c : Dev nD) (t : Fin cfg1.N)

/-- The point of row `r` of block `t`. -/
def pt (r : Fin 160) : Fin 20000 := ⟨t.val * 160 + r.val, by have := (places t).2.2.2.2.2; have := r.2; omega⟩

theorem blk0 (r : Fin 160) (j : Fin 3) : iblk V c 0 t (ix2 r j) = V c main_v5 (ix2 (pt t r) j) := by
  blk_ext [iblk, places t, pt]

theorem blk1 (j : Fin 3) (k : Fin 20480) : iblk V c 1 t (ix2 j k) = V c main_v8 (ix2 j k) := by
  blk_ext [iblk, places t]

theorem blk2 (r : Fin 160) (j : Fin 1) : iblk V c 2 t (ix2 r j) = V c main_v13 (ix2 (pt t r) j) := by
  blk_ext [iblk, places t, pt]

theorem blk3 (j : Fin 1) (k : Fin 20480) : iblk V c 3 t (ix2 j k) = V c main_v14 (ix2 j k) := by
  blk_ext [iblk, places t]

end blocks

/-- The keys of the neighbours of every point. -/
def keysArr (A : IVec S20000x4 32) : IVec S20000x27 32 := fun i => BitVec.ofNat 32 (nkey A (i 0) (nb A (i 0) (i 1)))

/-- A row of the body's result. -/
theorem row_result {A : IVec S20000x4 32} (hA : Small A) (p : Fin 20000) (r : Fin 160) (n : Fin 27) (x0 : Vec Ideal S160x3 .i8)
    (x1 : Vec Ideal S3x20480 .i8) (x2 : Vec Ideal S160x1 .i32) (x3 : Vec Ideal S1x20480 .i32)
    (h0 : ∀ j : Fin 3, x0 (ix2 r j) = (A (ix2 p j.succ)).setWidth 8)
    (h1 : ∀ (j : Fin 3) (k : Fin 20480), x1 (ix2 j k) = if h : k.1 < 20000 then (A (ix2 ⟨k.1, h⟩ j.succ)).setWidth 8 else 0#8)
    (h2 : BitVec.toNat (w := 32) (x2 (ix2 r (0 : Fin 1))) = sq A p) (h3 : ∀ k : Fin 20480, BitVec.toNat (w := 32) (x3 (ix2 (0 : Fin 1) k)) = cc A k) :
    knnOut (F := Ideal) x0 x1 x2 x3 (ix2 r n) = BitVec.ofNat 32 (nkey A p (nb A p n)) := by
  obtain ⟨σ, hσ, hord, hdom⟩ := row_select (k1_pay83 (F := Ideal) x0 x1 x2 x3) (key A p) r
    (keys hA p r x0 x1 x2 x3 h0 h1 h2 h3) (key_inj p) (key_small hA p)
  rw [← picks hA p σ hord hdom n, ← hσ n, BitVec.ofNat_toNat, BitVec.setWidth_eq]
  rfl

theorem covered : (cfg1.win 4).Covers := by decide +kernel

theorem array_of (c : Dev nD) (D : Dat τ (Elt Ideal) Unit ℕ Cert.Run.UU ℕ cfg1 c) (G : IVec S20000x27 32)
    (h : ∀ (t : Fin cfg1.N) (r : Fin 160) (n : Fin 27), D.after 4 t (ix2 r n) = G (ix2 (pt t r) n)) : D.arrAt 4 cfg1.N = G := by
  refine D.arrAt_eq_of_covers 4 _ covered fun t _ y => ?_
  blk_simp
  have hy : ∀ z : S160x27.Idx, z = ix2 (z 0 : Fin 160) (z 1 : Fin 27) := fun z => by blk_ext
  have e : ∀ z : S160x27.Idx, (win1_4.blk t).view.emb z = ix2 (pt t (z 0)) (z 1 : Fin 27) := fun z => by blk_ext [places t, pt]
  exact ((congrArg (D.after 4 t) (hy y)).trans (h t (y 0) (y 1))).trans (congrArg G (e y).symm)

theorem left {F : FTy → Type} [FloatOps F] (V : (c : Dev nD) → (b : Ref sig .tc) → Buf (Elt F) ((c : Thread nD τ).loc b)) (c : Dev nD)
    (t : Fin cfg1.N) : (dat (F := F) (U := Cert.Run.UU) V c).after 4 t
      = knnOut (F := F) (iblk V c 0 t) (iblk V c 1 t) (iblk V c 2 t) (iblk V c 3 t) := by
  dsimp only [dat]

theorem keysArr_at (A : IVec S20000x4 32) (p : Fin 20000) (n : Fin 27) :
    keysArr A (ix2 p n) = BitVec.ofNat 32 (nkey A p (nb A p n)) := rfl

attribute [local irreducible] knnOut nkey nb keysArr

theorem array (V : (c : Dev nD) → (b : Ref sig .tc) → Buf (Elt Ideal) ((c : Thread nD τ).loc b)) (c : Dev nD)
    {A : IVec S20000x4 32} (hA : Small A)
    (h0 : ∀ (p : Fin 20000) (j : Fin 3), V c main_v5 (ix2 p j) = (A (ix2 p j.succ)).setWidth 8)
    (h1 : ∀ (j : Fin 3) (k : Fin 20480), V c main_v8 (ix2 j k) = if h : k.1 < 20000 then (A (ix2 ⟨k.1, h⟩ j.succ)).setWidth 8 else 0#8)
    (h2 : ∀ (p : Fin 20000) (j : Fin 1), BitVec.toNat (w := 32) (V c main_v13 (ix2 p j)) = sq A p)
    (h3 : ∀ (j : Fin 1) (k : Fin 20480), BitVec.toNat (w := 32) (V c main_v14 (ix2 j k)) = cc A k) :
    (dat (F := Ideal) (U := Cert.Run.UU) V c).arrAt 4 cfg1.N = keysArr A := by
  refine array_of c (dat (F := Ideal) (U := Cert.Run.UU) V c) (keysArr A) fun t r n => ?_
  rw [left, keysArr_at]
  exact row_result hA (pt t r) r n (iblk V c 0 t) (iblk V c 1 t) (iblk V c 2 t) (iblk V c 3 t)
    (fun j => (blk0 V c t r j).trans (h0 _ _)) (fun j k => (blk1 V c t j k).trans (h1 _ _))
    ((congrArg BitVec.toNat (blk2 V c t r 0)).trans (h2 _ _)) (fun k => (congrArg BitVec.toNat (blk3 V c t 0 k)).trans (h3 _ _))

variable (m : (l : Loc nD τ sig) → Buf (Elt Ideal) l) (c : Dev nD)

/-- The region's result after the run is the neighbours' keys of the program's points. -/
theorem keys_of_run (hA : Small (m ((c : Thread nD τ).loc main_arg0))) :
    V4 m (Cert.Run.outs m) c main_v15 = keysArr (m ((c : Thread nD τ).loc main_arg0)) := by
  have ha : V2 m (Cert.Run.outs m) c main_arg0 = m ((c : Thread nD τ).loc main_arg0) :=
    (V2_of m _ c main_arg0 (by decide)).trans (V1_of m c main_arg0 (by decide))
  refine (Cert.Run.vp1_0 m c).trans (array (Cert.Run.VB m) c hA ?_ ?_ ?_ ?_)
  · intro p j
    refine (congrFun ((Cert.Run.VB_eq m c main_v5).trans (rows_eq (V2 m (Cert.Run.outs m) c))) (ix2 p j)).trans ?_
    rw [ha]
    exact rows_at p j
  · intro j k
    refine (congrFun ((Cert.Run.VB_eq m c main_v8).trans (cols_eq (V2 m (Cert.Run.outs m) c))) (ix2 j k)).trans ?_
    rw [ha]
    exact cols_at j k
  · intro p j
    refine (congrArg BitVec.toNat (congrFun ((Cert.Run.VB_eq m c main_v13).trans (row_sums_eq (V2 m (Cert.Run.outs m) c))) (ix2 p j))).trans ?_
    rw [ha]
    exact row_sums_at hA p j
  · intro j k
    refine (congrArg BitVec.toNat (congrFun ((Cert.Run.VB_eq m c main_v14).trans (col_sums_eq (V2 m (Cert.Run.outs m) c))) (ix2 j k))).trans ?_
    rw [ha]
    exact col_sums_at hA j k

end Cert.Knn
-- ==== Proof.Tail.lean ====
module

public import proofs.«01_k».proof.Proof.KnnArr

/-! # The neighbours and their validity after the run

The program's two results on neighbours, read off the keys. -/

set_option maxRecDepth 16384

@[expose] public section

noncomputable section

namespace Cert.Knn

open Cert.KernelIdeal Cert.KernelIdeal.Gen Idealize.ShloMosaic Idealize.ShloMosaic.TcCoe Idealize.SL.Sem Cert.Row

section
variable (V : Valuation τ sig (Elt Ideal))

theorem idx_eq : StableHlo.after (hostOps2 (F := Ideal)) V (Proc.devRef .tc main_v17)
    = andi (V (Proc.devRef .tc main_v15)) (broadcastInDim S20000x27 ![] bcast_S_S20000x27 (constantI S_ 32 32767#32)) := by
  after_results

theorem mask_eq : StableHlo.after (hostOps2 (F := Ideal)) V (Proc.devRef .tc main_v21)
    = cmpi .sle (Host.shrsi (V (Proc.devRef .tc main_v15)) (broadcastInDim S20000x27 ![] bcast_S_S20000x27 (constantI S_ 32 15#32)))
        (broadcastInDim S20000x27 ![] bcast_S_S20000x27 (constantI S_ 32 3#32)) := by
  after_results

end

variable {A : IVec S20000x4 32}

theorem low_part (d k : ℕ) (hk : k < 32768) (hd : d ≤ 23814) : BitVec.ofNat 32 (d * 32768 + k) &&& 32767#32 = BitVec.ofNat 32 k := by
  apply BitVec.eq_of_toNat_eq
  have h : (32767 : ℕ) = 2 ^ 15 - 1 := rfl
  simp only [BitVec.toNat_and, BitVec.toNat_ofNat]
  rw [Nat.mod_eq_of_lt (by omega), Nat.mod_eq_of_lt (by omega : 32767 < 2 ^ 32), h, Nat.and_two_pow_sub_one_eq_mod]
  omega

theorem high_part (d k : ℕ) (hk : k < 32768) (hd : d ≤ 23814) :
    IntOp.cmpi .sle ((BitVec.ofNat 32 (d * 32768 + k)).sshiftRight 15) 3#32 = if d ≤ 3 then 1#1 else 0#1 := by
  have hn : (BitVec.ofNat 32 (d * 32768 + k)).toNat = d * 32768 + k := by
    rw [BitVec.toNat_ofNat]; omega
  have hm : (BitVec.ofNat 32 (d * 32768 + k)).msb = false := by
    rw [BitVec.msb_eq_false_iff_two_mul_lt, hn]; omega
  have hs : ((BitVec.ofNat 32 (d * 32768 + k)).sshiftRight 15).toNat = d := by
    rw [BitVec.sshiftRight_eq_of_msb_false hm, BitVec.toNat_ushiftRight, hn, Nat.shiftRight_eq_div_pow]
    omega
  have hi : ((BitVec.ofNat 32 (d * 32768 + k)).sshiftRight 15).toInt = d := by
    rw [BitVec.toInt_eq_toNat_of_lt (by omega), hs]
  have h3 : (3#32 : BitVec 32).toInt = 3 := by decide
  show BitVec.ofBool (BitVec.sle _ _) = _
  rw [BitVec.sle_eq_decide, hi, h3]
  by_cases h : d ≤ 3
  · rw [if_pos h, decide_eq_true (by omega)]; rfl
  · rw [if_neg h, decide_eq_false (by omega)]; rfl

/-- The neighbours' numbers. -/
def nbArr (A : IVec S20000x4 32) : IVec S20000x27 32 := fun i => BitVec.ofNat 32 (nb A (i 0) (i 1)).1

/-- Which neighbours are at a squared distance of at most 3. -/
def maskArr (A : IVec S20000x4 32) : IVec S20000x27 1 := fun i => if dist A (i 0) (nb A (i 0) (i 1)) ≤ 3 then 1#1 else 0#1

variable (m : (l : Loc nD τ sig) → Buf (Elt Ideal) l) (c : Dev nD)

theorem idx_of_run (hA : Small (m ((c : Thread nD τ).loc main_arg0))) :
    V13 m (Cert.Run.outs m) c main_v17 = nbArr (m ((c : Thread nD τ).loc main_arg0)) := by
  refine (V13_of m _ c main_v17 (by decide)).trans <| (V12_of m _ c main_v17 (by decide)).trans <|
    (V11_of m _ c main_v17 (by decide)).trans <| (V10_of m _ c main_v17 (by decide)).trans <|
    (V9_of m _ c main_v17 (by decide)).trans <| (V8_of m _ c main_v17 (by decide)).trans <|
    (V7_of m _ c main_v17 (by decide)).trans <| (V6_of m _ c main_v17 (by decide)).trans <|
    (idx_eq (V4 m (Cert.Run.outs m) c)).trans ?_
  rw [keys_of_run m c hA]
  funext i
  exact low_part _ _ (by have := (nb (m ((c : Thread nD τ).loc main_arg0)) (i 0) (i 1)).2; omega) (dist_le hA _ _)

theorem mask_of_run (hA : Small (m ((c : Thread nD τ).loc main_arg0))) :
    V13 m (Cert.Run.outs m) c main_v21 = maskArr (m ((c : Thread nD τ).loc main_arg0)) := by
  refine (V13_of m _ c main_v21 (by decide)).trans <| (V12_of m _ c main_v21 (by decide)).trans <|
    (V11_of m _ c main_v21 (by decide)).trans <| (V10_of m _ c main_v21 (by decide)).trans <|
    (V9_of m _ c main_v21 (by decide)).trans <| (V8_of m _ c main_v21 (by decide)).trans <|
    (V7_of m _ c main_v21 (by decide)).trans <| (V6_of m _ c main_v21 (by decide)).trans <|
    (mask_eq (V4 m (Cert.Run.outs m) c)).trans ?_
  rw [keys_of_run m c hA]
  funext i
  exact high_part _ _ (by have := (nb (m ((c : Thread nD τ).loc main_arg0)) (i 0) (i 1)).2; omega) (dist_le hA _ _)

end Cert.Knn
-- ==== Proof.RefDist.lean ====
module

public import proofs.«01_k».proof.Proof.Nbr
public import proofs.«01_k».proof.Proof.Gen.ReferenceIdeal.Run
public import Idealize.ShloMosaic.Lib.Pipeline.ValueKit

/-! # The reference's distances

The reference's negated squared distances are the negated squared distances of the points, as real numbers. -/

set_option maxRecDepth 16384

@[expose] public section

noncomputable section

namespace Cert.Ref

open Cert.ReferenceIdeal Cert.ReferenceIdeal.Gen Cert.ReferenceIdeal.Value Idealize.ShloMosaic Idealize.ShloMosaic.TcCoe Idealize.SL.Sem
open Cert.Knn (crd sq dot dist Small nb before nkey)

variable (V0 : Valuation τ sig (Elt Ideal))

/-- The points. -/
abbrev pts : IVec S20000x4 32 := V0 (Proc.devRef .tc main_arg0)

theorem coord_at (h : Small (pts V0)) (p : Fin 20000) (j : Fin 3) :
    res_main_v31 V0 (ix2 p j) = ((crd (pts V0) p j : ℝ) : EReal) := by
  have e : res_main_v30 V0 (ix2 p j) = pts V0 (ix2 p j.succ) := by
    unfold res_main_v30
    pointwise
    blk_ext
    simp [Nat.add_comm]
  show (((res_main_v30 V0 (ix2 p j)).toInt : ℝ) : EReal) = _
  rw [e, BitVec.toInt_eq_toNat_of_lt (by have : crd (pts V0) p j < 64 := h p j; unfold crd at this; omega)]
  rfl

theorem two : Ideal.ofBits .f32 0x40000000#32 = ((2 : ℝ) : EReal) := by
  have e : (8388608 : ℝ) * (2 ^ 22)⁻¹ = 2 := by
    have h : (8388608 : ℝ) = 2 * 2 ^ 22 := by exact_mod_cast (by decide : 8388608 = 2 * 2 ^ 22)
    rw [h, mul_assoc, mul_inv_cancel₀ (pow_ne_zero _ two_ne_zero), mul_one]
  simp [Ideal.ofBits, Ideal.ieee, -EReal.coe_mul]
  exact e

/-- Of coordinates as real numbers, the negated sum of the squares less twice the products is the negated squared distance. -/
theorem combine (A : IVec S20000x4 32) (X : FVec Ideal S20000x3 .f32)
    (hX : ∀ (p : Fin 20000) (j : Fin 3), X (ix2 p j) = ((crd A p j : ℝ) : EReal)) (p q : Fin 20000) :
    -((∑ x : Fin 3, X (ix2 p x) * X (ix2 p x)) + (∑ x : Fin 3, X (ix2 q x) * X (ix2 q x))
      - Ideal.ofBits .f32 0x40000000#32 * ∑ x : Fin 3, X (ix2 p x) * X (ix2 q x)) = ((-(Cert.Knn.dist A p q : ℝ) : ℝ) : EReal) := by
  have hs : ∀ a b : Fin 20000, (∑ x : Fin 3, X (ix2 a x) * X (ix2 b x)) = ((dot A a b : ℝ) : EReal) := by
    intro a b
    rw [Fin.sum_univ_three]
    simp only [hX, ← EReal.coe_mul, ← EReal.coe_add]
    unfold dot
    push_cast
    rfl
  have hq : ∀ a, dot A a a = sq A a := fun _ => rfl
  have hd := Cert.Knn.dot_le (A := A) p q
  have e : (Cert.Knn.dist A p q : ℝ) = sq A p + sq A q - 2 * dot A p q := by
    unfold Cert.Knn.dist
    rw [Nat.cast_sub hd]
    push_cast
    rfl
  rw [hs, hs, hs, hq, hq, two, e, ← EReal.coe_add, ← EReal.coe_mul, ← EReal.coe_sub, ← EReal.coe_neg]

theorem neg_dist_at (h : Small (pts V0)) (p q : Fin 20000) :
    res_main_v46 V0 (ix2 p q) = ((-(Cert.Knn.dist (pts V0) p q : ℝ) : ℝ) : EReal) := by
  unfold res_main_v46
  pointwise
  exact combine (pts V0) (res_main_v31 V0) (coord_at V0 h) p q

/-! ## The neighbours -/

/-- The reference's order of the places of a row, by the greater value, sorts them as the neighbours' order does. -/
theorem order_at (h : Small (pts V0)) (p : Fin 20000) :
    sortedFrom (fun k k' : Fin 20000 => FloatOps.cmpfTotal (F := Ideal) (φ := .f32) .gt (res_main_v46 V0 (ix2 p k)) (res_main_v46 V0 (ix2 p k')) == 1#1)
      = sortedFrom (before (pts V0) p) := by
  refine Cert.Knn.stable_before p _ fun a b => ?_
  rw [beq_iff_eq, Ideal.cmpfTotal_def, neg_dist_at V0 h, neg_dist_at V0 h]
  refine (Ideal.cmp_ogt_eq_one _ _).trans ?_
  rw [EReal.coe_lt_coe_iff, neg_lt_neg_iff, Nat.cast_lt]

attribute [local irreducible] sortedFrom

theorem iota_at (p k : Fin 20000) : iotaInDim S20000x20000 32 1 (ix2 p k) = BitVec.ofNat 32 k.1 := rfl

theorem top_at (gt : Ideal .f32 → Ideal .f32 → BitVec 1) (x : FVec Ideal S20000x20000 .f32) (p : Fin 20000) (n : Fin 27) :
    (Host.topK S20000x27 1 gt x sliceFits_S20000x20000_S20000x27).2 (ix2 p n)
      = BitVec.ofNat 32 (sortedFrom (fun k k' : Fin 20000 => gt (x (ix2 p k)) (x (ix2 p k')) == 1#1) (n.castLE (by decide : 27 ≤ 20000))).1 := by
  have hd : 1 < S20000x20000.rank := by decide
  unfold Host.topK Host.sort2
  simp only [dif_pos hd]
  have hal : ∀ N k : Fin 20000, (ix2 p N : S20000x20000.Idx).along 1 k = ix2 p k := fun N k => by
    funext a
    fin_cases a <;> rfl
  have hR : ∀ N : Fin 20000, (fun k k' : Fin 20000 => gt (x ((ix2 p N : S20000x20000.Idx).along 1 k)) (x ((ix2 p N : S20000x20000.Idx).along 1 k')) == 1#1)
      = fun k k' => gt (x (ix2 p k)) (x (ix2 p k')) == 1#1 := fun N => by
    funext k k'
    rw [hal, hal]
  have sl : ∀ f : S20000x20000.Idx → BitVec 32, extractStridedSlice S20000x27 (fun _ => 0) f sliceFits_S20000x20000_S20000x27 (ix2 p n)
      = f (ix2 p (n.castLE (by decide : 27 ≤ 20000))) := fun f => by
    pointwise
    blk_ext
    rfl
  rw [sl]
  exact ((congrArg (iotaInDim S20000x20000 32 1) (hal _ _)).trans (iota_at _ _)).trans
    (congrArg (fun R => BitVec.ofNat 32 (sortedFrom R (n.castLE (by decide : 27 ≤ 20000))).1) (hR _))

theorem indices_at (h : Small (pts V0)) (p : Fin 20000) (n : Fin 27) :
    res_main_indices V0 (ix2 p n) = BitVec.ofNat 32 (nb (pts V0) p n).1 := by
  unfold res_main_indices
  refine (top_at _ (res_main_v46 V0) p n).trans ?_
  rw [order_at V0 h]
  rfl

end Cert.Ref
-- ==== Proof.Take.lean ====
module

public import Idealize.ShloMosaic.Lib.Pipeline.ValueKit

/-! # Rows taken at an array of row numbers -/

set_option maxRecDepth 16384

@[expose] public section

noncomputable section

namespace Cert.Take

open Idealize.ShloMosaic

variable {α : Type} {N D R C : ℕ}

/-- Rows of an `N` by `D` array at an `R` by `C` array of row numbers. -/
abbrev dims (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- An element of the rows taken at a row number below `N`. -/
theorem take_at (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ 32) (r : Fin R) (k : Fin C) (j : Fin D) (q : Fin N)
    (hq : (idx (ix3 r k 0)).toInt = q.1) :
    Host.gather (dims wf) x idx (ix3 r k j) = x (ix2 q j) := by
  unfold Host.gather
  refine congrArg x (funext fun a => Fin.ext ?_)
  show (dims wf).start (ix3 r k j) idx a + (dims wf).batchCoord (ix3 r k j) a + (dims wf).offCoord (ix3 r k j) a = _
  rw [GatherDims.batchCoord_eq_zero _ _ _ List.not_mem_nil, Nat.add_zero]
  match a with
  | ⟨0, h0⟩ =>
    have hs : (dims wf).siIdx (ix3 r k j) ⟨0, Nat.one_pos⟩ = ix3 r k 0 := by
      funext b
      refine Fin.ext ?_
      match b with
      | ⟨0, _⟩ => rfl
      | ⟨1, _⟩ => rfl
      | ⟨2, _⟩ => rfl
    have ho : (dims wf).offCoord (ix3 r k j) ⟨0, h0⟩ = 0 :=
      GatherDims.offCoord_eq_zero _ _ _ fun h => ((GatherDims.mem_sKept _ _).mp h).1 (List.mem_singleton.mpr rfl)
    have hst : (dims wf).start (ix3 r k j) idx ⟨0, h0⟩ = min (idx ((dims wf).siIdx (ix3 r k j) ⟨0, Nat.one_pos⟩)).toInt.toNat (N - 1) := by
      unfold GatherDims.start
      rw [dif_pos (show (⟨0, h0⟩ : Fin 2) ∈ (dims wf).startIndexMap from List.mem_singleton.mpr rfl)]
      rfl
    rw [ho, hst, hs, hq]
    show min q.1 (N - 1) + 0 = q.1
    have := q.2
    omega
  | ⟨1, h1⟩ =>
    have hst : (dims wf).start (ix3 r k j) idx ⟨1, h1⟩ = 0 := by
      unfold GatherDims.start
      rw [dif_neg (show ¬ (⟨1, h1⟩ : Fin 2) ∈ (dims wf).startIndexMap from by
        intro h; exact absurd (congrArg Fin.val (List.mem_singleton.mp h)) Nat.one_ne_zero)]
    rw [hst, Nat.zero_add]
    rfl

end Cert.Take
-- ==== Proof.RefMask.lean ====
module

public import proofs.«01_k».proof.Proof.RefDist
public import proofs.«01_k».proof.Proof.Host
public import proofs.«01_k».proof.Proof.Take

/-! # The reference's validity mask

The greatest absolute difference of the coordinates is at most 1.1 exactly where the squared distance is at most 3. -/

set_option maxRecDepth 16384

@[expose] public section

noncomputable section

namespace Cert.Ref

open Cert.ReferenceIdeal Cert.ReferenceIdeal.Gen Cert.ReferenceIdeal.Value Idealize.ShloMosaic Idealize.ShloMosaic.TcCoe Idealize.SL.Sem
open Cert.Knn (crd sq dot Small nb before nkey)

/-! ## Whole numbers -/

/-- A square of a whole number is at most 1 where the number is from -1 to 1, and at least 4 elsewhere. -/
theorem square_cases (z : ℤ) : 0 ≤ z * z ∧ (-1 ≤ z ∧ z ≤ 1 → z * z ≤ 1) ∧ (¬ (-1 ≤ z ∧ z ≤ 1) → 4 ≤ z * z) := by
  refine ⟨mul_self_nonneg z, fun h => ?_, fun h => ?_⟩
  · have : z = -1 ∨ z = 0 ∨ z = 1 := by omega
    rcases this with e | e | e <;> rw [e] <;> decide
  · rcases lt_or_ge z 0 with g | g
    · have := mul_self_le_mul_self (show (0 : ℤ) ≤ 2 by decide) (show (2 : ℤ) ≤ -z by omega)
      rw [neg_mul_neg] at this
      omega
    · have := mul_self_le_mul_self (show (0 : ℤ) ≤ 2 by decide) (show (2 : ℤ) ≤ z by omega)
      omega

/-- The difference of a coordinate of two points. -/
def gap (A : IVec S20000x4 32) (p q : Fin 20000) (j : Fin 3) : ℤ := (crd A q j : ℤ) - (crd A p j : ℤ)

theorem dist_gap (A : IVec S20000x4 32) (p q : Fin 20000) :
    (Cert.Knn.dist A p q : ℤ) = gap A p q 0 * gap A p q 0 + gap A p q 1 * gap A p q 1 + gap A p q 2 * gap A p q 2 := by
  unfold Cert.Knn.dist
  rw [Nat.cast_sub (Cert.Knn.dot_le p q)]
  unfold gap Cert.Knn.sq dot
  push_cast
  ring_nf

theorem near_iff (A : IVec S20000x4 32) (p q : Fin 20000) :
    Cert.Knn.dist A p q ≤ 3 ↔ ∀ j, -1 ≤ gap A p q j ∧ gap A p q j ≤ 1 := by
  have h := dist_gap A p q
  have s0 := square_cases (gap A p q 0)
  have s1 := square_cases (gap A p q 1)
  have s2 := square_cases (gap A p q 2)
  constructor
  · intro hd j
    by_contra hj
    fin_cases j
    · have := s0.2.2 hj; omega
    · have := s1.2.2 hj; omega
    · have := s2.2.2 hj; omega
  · intro hj
    have := s0.2.1 (hj 0); have := s1.2.1 (hj 1); have := s2.2.1 (hj 2)
    omega

/-! ## The bound 1.1 -/

theorem bound : Ideal.ofBits .f32 0x3F8CCCCD#32 = ((9227469 * (2 ^ 23)⁻¹ : ℝ) : EReal) := by
  simp [Ideal.ofBits, Ideal.ieee, -EReal.coe_mul]

theorem lowest : Ideal.ofBits .f32 0xFF800000#32 = ⊥ := by
  simp [Ideal.ofBits, Ideal.ieee]

theorem le_bound (z : ℤ) : (((z : ℝ) : EReal) ≤ ((9227469 * (2 ^ 23)⁻¹ : ℝ) : EReal)) ↔ z ≤ 1 := by
  rw [EReal.coe_le_coe_iff, ← div_eq_mul_inv, le_div_iff₀ (pow_pos two_pos _)]
  have e : ((z : ℝ) * 2 ^ 23 ≤ 9227469) ↔ z * 2 ^ 23 ≤ 9227469 := by exact_mod_cast Iff.rfl
  rw [e]
  omega

theorem abs_le_bound (z : ℤ) : max ((z : ℝ) : EReal) (-((z : ℝ) : EReal)) ≤ Ideal.ofBits .f32 0x3F8CCCCD#32 ↔ -1 ≤ z ∧ z ≤ 1 := by
  have hn : -((z : ℝ) : EReal) = (((-z : ℤ) : ℝ) : EReal) := by push_cast; rfl
  rw [bound, hn, max_le_iff, le_bound, le_bound]
  omega

/-! ## The differences of coordinates -/

variable (V0 : Valuation τ sig (Elt Ideal))

theorem coords_at (p : Fin 20000) (j : Fin 3) : res_main_v30 V0 (ix2 p j) = pts V0 (ix2 p j.succ) := by
  unfold res_main_v30
  pointwise
  blk_ext
  simp [Nat.add_comm]

/-- Row numbers with a last axis of one place. -/
theorem with_axis (X : IVec S20000x27 32) (p : Fin 20000) (n : Fin 27) :
    broadcastInDim S20000x27x1 ![0, 1] bcast_S20000x27_S20000x27x1_0_1 X (ix3 p n 0) = X (ix2 p n) := by
  pointwise
  blk_ext

/-- A point's coordinates, the same for all its neighbours. -/
theorem spread (X : IVec S20000x3 32) (p : Fin 20000) (n : Fin 27) (j : Fin 3) :
    broadcastInDim S20000x27x3 ![0, 1, 2] bcast_S20000x1x3_S20000x27x3_0_1_2
      (broadcastInDim S20000x1x3 ![0, 2] bcast_S20000x3_S20000x1x3_0_2 X) (ix3 p n j) = X (ix2 p j) := by
  pointwise
  blk_ext

/-- A row number that is not negative stays as it is. -/
theorem kept (X : IVec S20000x27 32) (p : Fin 20000) (n : Fin 27) (q : Fin 20000) (h : X (ix2 p n) = BitVec.ofNat 32 q.1) :
    (select (cmpi .slt X (broadcastInDim S20000x27 ![] bcast_S_S20000x27 (constantI S_ 32 0#32)))
      (addi X (broadcastInDim S20000x27 ![] bcast_S_S20000x27 (constantI S_ 32 20000#32))) X) (ix2 p n) = BitVec.ofNat 32 q.1 := by
  have hn : (X (ix2 p n)).slt 0#32 = false := by
    have := q.2
    rw [h, BitVec.slt, BitVec.toInt_eq_toNat_of_lt (by rw [BitVec.toNat_ofNat]; omega)]
    rw [BitVec.toNat_ofNat]
    simp only [decide_eq_false_iff_not]
    show ¬ ((q.1 % 2 ^ 32 : ℕ) : ℤ) < 0
    omega
  show (if BitVec.ofBool ((X (ix2 p n)).slt 0#32) = 1#1 then _ else X (ix2 p n)) = _
  rw [hn, if_neg (by decide), h]

theorem rel_at (h : Small (pts V0)) (p : Fin 20000) (n : Fin 27) (j : Fin 3) :
    (res_main_v56 V0 (ix3 p n j)).toInt = gap (pts V0) p (nb (pts V0) p n) j := by
  have hq := (nb (pts V0) p n).2
  have hg : Host.gather gather_S20000x3_S20000x27x1_S20000x27x3_2_0_n_n_0_2_13 (res_main_v30 V0)
      (broadcastInDim S20000x27x1 ![0, 1] bcast_S20000x27_S20000x27x1_0_1
        (select (cmpi .slt (res_main_indices V0) (broadcastInDim S20000x27 ![] bcast_S_S20000x27 (constantI S_ 32 0#32)))
          (addi (res_main_indices V0) (broadcastInDim S20000x27 ![] bcast_S_S20000x27 (constantI S_ 32 20000#32)))
          (res_main_indices V0))) (ix3 p n j) = res_main_v30 V0 (ix2 (nb (pts V0) p n) j) := by
    refine Cert.Take.take_at _ _ _ p n j (nb (pts V0) p n) ?_
    rw [with_axis, kept _ p n _ (indices_at V0 h p n)]
    rw [BitVec.toInt_eq_toNat_of_lt (by rw [BitVec.toNat_ofNat]; omega), BitVec.toNat_ofNat]
    omega
  have e : res_main_v56 V0 (ix3 p n j) = pts V0 (ix2 (nb (pts V0) p n) j.succ) - pts V0 (ix2 p j.succ) := by
    rw [← coords_at, ← coords_at, ← hg, ← spread (res_main_v30 V0) p n j]
    rfl
  have ha : (pts V0 (ix2 (nb (pts V0) p n) j.succ)).toNat < 64 := h _ j
  have hb : (pts V0 (ix2 p j.succ)).toNat < 64 := h p j
  rw [e, BitVec.toInt_sub, BitVec.toInt_eq_toNat_of_lt (by omega), BitVec.toInt_eq_toNat_of_lt (by omega)]
  rw [Int.bmod_eq_of_le (by omega) (by omega)]
  rfl

/-! ## The mask -/

/-- The mask over the differences of coordinates. -/
abbrev maskOf (X : IVec S20000x27x3 32) : IVec S20000x27 1 :=
  cmpf .ole (Host.reduce FloatOps.maximumf (Host.absf (sitofp (F := Ideal) .f32 X)) (constant S_ .f32 0xFF800000#32)
    reducesTo_S20000x27x3_S20000x27_d2 h_S_) (broadcastInDim S20000x27 ![] bcast_S_S20000x27 (constant S_ .f32 0x3F8CCCCD#32))

theorem axis_two : S20000x27x3.Reduces [2] S20000x27 := by decide

theorem greatest (Y : FVec Ideal S20000x27x3 .f32) (p : Fin 20000) (n : Fin 27) :
    Host.reduce FloatOps.maximumf Y (constant S_ .f32 0xFF800000#32) reducesTo_S20000x27x3_S20000x27_d2 h_S_ (ix2 p n) =
      max (Y (ix3 p n 0)) (max (Y (ix3 p n 1)) (max (Y (ix3 p n 2)) (Ideal.ofBits .f32 0xFF800000#32))) := by
  rw [Host.reduce_eq_fold_single _ _ _ _ axis_two]
  refine (Cert.Knn.fold_three _ _ _).trans ?_
  have e (k : Fin 3) : axis_two.lift (ix2 p n) k = ix3 p n k := by
    funext a
    fin_cases a <;> rfl
  rw [← e 0, ← e 1, ← e 2]
  rfl

theorem at_most (Z : FVec Ideal S20000x27 .f32) (i : S20000x27.Idx) :
    cmpf .ole Z (broadcastInDim S20000x27 ![] bcast_S_S20000x27 (constant S_ .f32 0x3F8CCCCD#32)) i =
      Ideal.cmp .ole (Z i) (Ideal.ofBits .f32 0x3F8CCCCD#32) := rfl

theorem maskOf_at (X : IVec S20000x27x3 32) (A : IVec S20000x4 32) (p q : Fin 20000) (n : Fin 27)
    (h : ∀ j, (X (ix3 p n j)).toInt = gap A p q j) :
    maskOf X (ix2 p n) = if Cert.Knn.dist A p q ≤ 3 then 1#1 else 0#1 := by
  have hy (j : Fin 3) : (Host.absf (sitofp (F := Ideal) .f32 X)) (ix3 p n j) =
      max ((gap A p q j : ℝ) : EReal) (-((gap A p q j : ℝ) : EReal)) := by
    rw [← h j]; rfl
  have hiff : (max (max ((gap A p q 0 : ℝ) : EReal) (-((gap A p q 0 : ℝ) : EReal))) (max (max ((gap A p q 1 : ℝ) : EReal) (-((gap A p q 1 : ℝ) : EReal)))
      (max (max ((gap A p q 2 : ℝ) : EReal) (-((gap A p q 2 : ℝ) : EReal))) (Ideal.ofBits .f32 0xFF800000#32))) ≤ Ideal.ofBits .f32 0x3F8CCCCD#32) ↔
      Cert.Knn.dist A p q ≤ 3 := by
    rw [max_le_iff, abs_le_bound, max_le_iff, abs_le_bound, max_le_iff, abs_le_bound, lowest, near_iff]
    constructor
    · rintro ⟨h0, h1, h2, _⟩ j
      fin_cases j
      · exact h0
      · exact h1
      · exact h2
    · intro g
      exact ⟨g 0, g 1, g 2, bot_le⟩
  refine (at_most _ _).trans ?_
  rw [greatest, hy, hy, hy]
  by_cases hd : Cert.Knn.dist A p q ≤ 3
  · rw [if_pos hd]
    exact (Ideal.cmp_ole_eq_one _ _).2 (hiff.2 hd)
  · rw [if_neg hd]
    rcases BitVec.eq_zero_or_eq_one (Ideal.cmp .ole _ (Ideal.ofBits .f32 0x3F8CCCCD#32)) with z | z
    · exact z
    · exact absurd (hiff.1 ((Ideal.cmp_ole_eq_one _ _).1 z)) hd

/-- The reference's mask tells whether the squared distance to the neighbour is at most 3. -/
theorem mask_at (h : Small (pts V0)) (p : Fin 20000) (n : Fin 27) :
    maskOf (res_main_v56 V0) (ix2 p n) = if Cert.Knn.dist (pts V0) p (nb (pts V0) p n) ≤ 3 then 1#1 else 0#1 :=
  maskOf_at _ _ _ _ _ (rel_at V0 h p n)

end Cert.Ref
-- ==== Proof.Bdy.lean ====
module

public import proofs.«01_k».proof.Proof.Run
public import proofs.«01_k».proof.Proof.Gen.ReferenceIdeal.Run
public import Idealize.ShloMosaic.Lib.Pipeline.ValueKit

/-! # The features of a row and its boundary logit

Both programs compute the same formula row by row; the kernel's blocks are 2000 rows each. -/

set_option maxRecDepth 16384

@[expose] public section

noncomputable section

namespace Cert.Bdy

open Idealize.ShloMosaic Idealize.ShloMosaic.TcCoe Idealize.SL.Sem

/-- A row times a matrix. -/
def lin {a b : ℕ} (x : Fin a → EReal) (W : Fin a → Fin b → EReal) (k : Fin b) : EReal := ∑ j, x j * W j k

/-- The mean of 64 numbers. -/
def mean (p : Fin 64 → EReal) : EReal := Ideal.div (∑ j, p j) (Ideal.ofBits .f32 0x42800000#32)

/-- A row of 64 numbers normalised, scaled and shifted, its negative elements replaced by 0. -/
def norm (p g b : Fin 64 → EReal) (k : Fin 64) : EReal :=
  max (Ideal.div (p k - mean p)
    (Ideal.sqrt (Ideal.div (∑ j, (p j - mean p) * (p j - mean p)) (Ideal.ofBits .f32 0x42800000#32) + Ideal.ofBits .f32 0x3727C5AC#32))
    * g k + b k) 0

section
open Cert.KernelIdeal Cert.KernelIdeal.Gen
open Idealize.ShloMosaic.Pipeline (Dat)

/-- The features of a row of a block. -/
theorem block_feat (x0 : FVec Ideal S2000x32 .f32) (x2 : FVec Ideal S32x64 .f32) (x3 x4 : FVec Ideal S1x64 .f32) (r : Fin 2000) (k : Fin 64) :
    k0_pay5 (F := Ideal) x0 x2 x3 x4 (ix2 r k) = norm (lin (fun j => x0 (ix2 r j)) fun j k => x2 (ix2 j k)) (fun k => x3 (ix2 0 k)) (fun k => x4 (ix2 0 k)) k := by
  unfold k0_pay5 norm mean lin
  pointwise

/-- The boundary logit of a row of a block. -/
theorem block_bdy (x0 : FVec Ideal S2000x32 .f32) (x2 : FVec Ideal S32x64 .f32) (x3 x4 : FVec Ideal S1x64 .f32) (x5 : FVec Ideal S64x1 .f32)
    (x6 : FVec Ideal S1x1 .f32) (r : Fin 2000) :
    k0_pay1 (F := Ideal) (k0_pay6 x0 x2 x3 x4 x5) (k0_pay7 x6) (ix2 r 0) =
      lin (norm (lin (fun j => x0 (ix2 r j)) fun j k => x2 (ix2 j k)) (fun k => x3 (ix2 0 k)) (fun k => x4 (ix2 0 k))) (fun j k => x5 (ix2 j k)) 0
        + x6 (ix2 0 0) := by
  unfold k0_pay1 k0_pay6 k0_pay7 lin
  pointwise
  simp only [block_feat]
  rfl

/-- The blocks: rows 2000 t to 2000 t + 1999 of the arrays that go by rows, and the whole of the others. -/
theorem places : ∀ t : Fin cfg0.N, win0_0.index t = ![t.val, 0] ∧ win0_2.index t = ![0, 0] ∧ win0_3.index t = ![0, 0]
    ∧ win0_4.index t = ![0, 0] ∧ win0_5.index t = ![0, 0] ∧ win0_6.index t = ![0, 0] ∧ win0_11.index t = ![t.val, 0] ∧ t.val < 10 :=
  (by decide +kernel : ∀ t : Fin grid0.N, _)

section blocks
variable (V : (c : Dev nD) → (b : Ref sig .tc) → Buf (Elt Ideal) ((c : Thread nD τ).loc b)) (c : Dev nD) (t : Fin cfg0.N)

/-- The point of row `r` of block `t`. -/
def pt (r : Fin 2000) : Fin 20000 := ⟨t.val * 2000 + r.val, by have := (places t).2.2.2.2.2.2.2; have := r.2; omega⟩

theorem blk0 (r : Fin 2000) (j : Fin 32) : Dense.iblk V c 0 t (ix2 r j) = V c main_arg1 (ix2 (pt t r) j) := by
  blk_ext [Dense.iblk, places t, pt]

theorem blk2 (j : Fin 32) (k : Fin 64) : Dense.iblk V c 2 t (ix2 j k) = V c main_arg3 (ix2 j k) := by
  blk_ext [Dense.iblk, places t]

theorem blk3 (j : Fin 1) (k : Fin 64) : Dense.iblk V c 3 t (ix2 j k) = V c main_v0 (ix2 j k) := by
  blk_ext [Dense.iblk, places t]

theorem blk4 (j : Fin 1) (k : Fin 64) : Dense.iblk V c 4 t (ix2 j k) = V c main_v1 (ix2 j k) := by
  blk_ext [Dense.iblk, places t]

theorem blk5 (j : Fin 64) (k : Fin 1) : Dense.iblk V c 5 t (ix2 j k) = V c main_arg6 (ix2 j k) := by
  blk_ext [Dense.iblk, places t]

theorem blk6 (j k : Fin 1) : Dense.iblk V c 6 t (ix2 j k) = V c main_v2 (ix2 j k) := by
  blk_ext [Dense.iblk, places t]

end blocks

theorem covered : (cfg0.win 11).Covers := by decide +kernel

theorem array_of (c : Dev nD) (D : Dat τ (Elt Ideal) Unit ℕ Cert.Run.UU ℕ cfg0 c) (G : FVec Ideal S20000x1 .f32)
    (h : ∀ (t : Fin cfg0.N) (r : Fin 2000), D.after 11 t (ix2 r (0 : Fin 1)) = G (ix2 (pt t r) 0)) : D.arrAt 11 cfg0.N = G := by
  refine D.arrAt_eq_of_covers 11 _ covered fun t _ y => ?_
  blk_simp
  have hy : ∀ z : S2000x1.Idx, z = ix2 (z 0 : Fin 2000) (0 : Fin 1) := fun z => by blk_ext
  have e : ∀ z : S2000x1.Idx, (win0_11.blk t).view.emb z = ix2 (pt t (z 0)) (0 : Fin 1) := fun z => by blk_ext [places t, pt]
  exact ((congrArg (D.after 11 t) (hy y)).trans (h t (y 0))).trans (congrArg G (e y).symm)

theorem left {F : FTy → Type} [FloatOps F] (V : (c : Dev nD) → (b : Ref sig .tc) → Buf (Elt F) ((c : Thread nD τ).loc b)) (c : Dev nD)
    (t : Fin cfg0.N) : (Dense.dat (F := F) (U := Cert.Run.UU) V c).after 11 t
      = k0_pay1 (k0_pay6 (Dense.iblk V c 0 t) (Dense.iblk V c 2 t) (Dense.iblk V c 3 t) (Dense.iblk V c 4 t) (Dense.iblk V c 5 t)) (k0_pay7 (Dense.iblk V c 6 t)) := by
  dsimp only [Dense.dat]

end

/-- The boundary logits of the arguments. -/
def logits (X : Fin 20000 → Fin 32 → EReal) (W : Fin 32 → Fin 64 → EReal) (g b : Fin 64 → EReal) (w : Fin 64 → Fin 1 → EReal) (z : EReal) :
    FVec Ideal ⟨2, ![20000, 1]⟩ .f32 := fun i => lin (norm (lin (X (i 0)) W) g b) w 0 + z

theorem logits_at (X : Fin 20000 → Fin 32 → EReal) (W : Fin 32 → Fin 64 → EReal) (g b : Fin 64 → EReal) (w : Fin 64 → Fin 1 → EReal) (z : EReal)
    (r : Fin 20000) : logits X W g b w z (ix2 r (0 : Fin 1)) = lin (norm (lin (X r) W) g b) w 0 + z := rfl

section
open Cert.ReferenceIdeal Cert.ReferenceIdeal.Gen Cert.ReferenceIdeal.Value

/-- The reference's means of rows. -/
theorem means (P : FVec Ideal S20000x64 .f32) (r : Fin 20000) :
    Host.divf (broadcastInDim S20000x1 ![0] bcast_S20000_S20000x1_0 (Host.reduceAdd P (constant S_ .f32 0x00000000#32) reducesTo_S20000x64_S20000_d1 h_S_))
      (broadcastInDim S20000x1 ![] bcast_S_S20000x1 (constant S_ .f32 0x42800000#32)) (ix2 r 0) = mean fun j => P (ix2 r j) := by
  unfold mean
  pointwise

/-- The reference's rows less their means. -/
theorem centred (P : FVec Ideal S20000x64 .f32) (M : FVec Ideal S20000x1 .f32) (r : Fin 20000) (k : Fin 64) :
    subf P (broadcastInDim S20000x64 ![0, 1] bcast_S20000x1_S20000x64_0_1 M) (ix2 r k) = P (ix2 r k) - M (ix2 r 0) := by
  pointwise

/-- The reference's normalised rows. -/
theorem normed (P C : FVec Ideal S20000x64 .f32) (M : FVec Ideal S20000x1 .f32) (g b : FVec Ideal S64 .f32) (r : Fin 20000) (k : Fin 64)
    (hM : M (ix2 r 0) = mean fun j => P (ix2 r j)) (hC : ∀ k, C (ix2 r k) = P (ix2 r k) - M (ix2 r 0)) :
    maximumf (addf (mulf (Host.divf (subf P (broadcastInDim S20000x64 ![0, 1] bcast_S20000x1_S20000x64_0_1 M)) (broadcastInDim S20000x64 ![0, 1] bcast_S20000x1_S20000x64_0_1 (Host.sqrt (addf (Host.divf (broadcastInDim S20000x1 ![0] bcast_S20000_S20000x1_0 (Host.reduceAdd (mulf C C) (constant S_ .f32 0x00000000#32) reducesTo_S20000x64_S20000_d1 h_S_)) (broadcastInDim S20000x1 ![] bcast_S_S20000x1 (constant S_ .f32 0x42800000#32))) (broadcastInDim S20000x1 ![] bcast_S_S20000x1 (constant S_ .f32 0x3727C5AC#32)))))) (broadcastInDim S20000x64 ![0, 1] bcast_S1x64_S20000x64_0_1 (broadcastInDim S1x64 ![1] bcast_S64_S1x64_1 g))) (broadcastInDim S20000x64 ![0, 1] bcast_S1x64_S20000x64_0_1 (broadcastInDim S1x64 ![1] bcast_S64_S1x64_1 b))) (broadcastInDim S20000x64 ![] bcast_S_S20000x64 (constant S_ .f32 0x00000000#32)) (ix2 r k)
      = norm (fun j => P (ix2 r j)) (fun k => g (ix1 k)) (fun k => b (ix1 k)) k := by
  pointwise
  simp only [hC, hM]
  rfl

/-- A row of features times a column, plus a number. -/
theorem out_at (Q : FVec Ideal S20000x64 .f32) (w : FVec Ideal S64x1 .f32) (z : FVec Ideal S1 .f32) (r : Fin 20000) :
    addf (Host.dotGeneral dot_S20000x64_S64x1_S20000x1_1_0_0_1_n_n none Q w)
      (broadcastInDim S20000x1 ![0, 1] bcast_S1x1_S20000x1_0_1 (broadcastInDim S1x1 ![1] bcast_S1_S1x1_1 z)) (ix2 r 0) =
    lin (fun k => Q (ix2 r k)) (fun j k => w (ix2 j k)) 0 + z (ix1 0) := by
  unfold lin
  pointwise

theorem lin_at (X : FVec Ideal S20000x32 .f32) (W : FVec Ideal S32x64 .f32) (r : Fin 20000) (k : Fin 64) :
    Host.dotGeneral dot_S20000x32_S32x64_S20000x64_1_0_0_1_n_n none X W (ix2 r k) = lin (fun j => X (ix2 r j)) (fun j k => W (ix2 j k)) k := by
  unfold lin
  pointwise

variable (V0 : Valuation τ sig (Elt Ideal))

abbrev X : FVec Ideal S20000x32 .f32 := V0 (Proc.devRef .tc main_arg1)
abbrev W : FVec Ideal S32x64 .f32 := V0 (Proc.devRef .tc main_arg3)
abbrev G : FVec Ideal S64 .f32 := V0 (Proc.devRef .tc main_arg4)
abbrev B : FVec Ideal S64 .f32 := V0 (Proc.devRef .tc main_arg5)
abbrev w : FVec Ideal S64x1 .f32 := V0 (Proc.devRef .tc main_arg6)
abbrev z : FVec Ideal S1 .f32 := V0 (Proc.devRef .tc main_arg7)
abbrev P : FVec Ideal S20000x64 .f32 := res_main_v0 V0
abbrev Q : FVec Ideal S20000x64 .f32 := res_main_v25 V0

/-- The reference's features of a row. -/
theorem ref_feat (r : Fin 20000) (k : Fin 64) : Q V0 (ix2 r k) =
    norm (lin (fun j => X V0 (ix2 r j)) fun j k => W V0 (ix2 j k)) (fun k => G V0 (ix1 k)) (fun k => B V0 (ix1 k)) k := by
  rw [show lin (fun j => X V0 (ix2 r j)) (fun j k => W V0 (ix2 j k)) = (fun k => P V0 (ix2 r k)) from funext fun k => (lin_at (X V0) (W V0) r k).symm]
  exact normed (P V0) (res_main_v6 V0) (res_main_v4 V0) (G V0) (B V0) r k (means (P V0) r) (fun k => centred (P V0) (res_main_v4 V0) r k)

/-- The boundary logits of the program's arrays. -/
def bdyArr (x1 : FVec Ideal S20000x32 .f32) (x3 : FVec Ideal S32x64 .f32) (x4 x5 : FVec Ideal S64 .f32) (x6 : FVec Ideal S64x1 .f32)
    (x7 : FVec Ideal S1 .f32) : FVec Ideal S20000x1 .f32 :=
  logits (fun r j => x1 (ix2 r j)) (fun j k => x3 (ix2 j k)) (fun k => x4 (ix1 k)) (fun k => x5 (ix1 k)) (fun j k => x6 (ix2 j k)) (x7 (ix1 0))

/-- Two columns that agree at every row are the same. -/
theorem column_ext (f g : FVec Ideal S20000x1 .f32) (h : ∀ r : Fin 20000, f (ix2 r 0) = g (ix2 r 0)) : f = g := by
  funext i
  have hi : i = ix2 (i 0 : Fin 20000) (0 : Fin 1) := by blk_ext
  exact (congrArg f hi).trans ((h (i 0)).trans (congrArg g hi.symm))

/-- The reference's boundary logits. -/
theorem ref_bdy : addf (Host.dotGeneral dot_S20000x64_S64x1_S20000x1_1_0_0_1_n_n none (Q V0) (w V0))
      (broadcastInDim S20000x1 ![0, 1] bcast_S1x1_S20000x1_0_1 (broadcastInDim S1x1 ![1] bcast_S1_S1x1_1 (z V0))) =
    bdyArr (X V0) (W V0) (G V0) (B V0) (w V0) (z V0) := by
  refine column_ext _ _ fun r => ?_
  refine (out_at (Q V0) (w V0) (z V0) r).trans ?_
  rw [show (fun k => Q V0 (ix2 r k)) = _ from funext fun k => ref_feat V0 r k]
  rfl

end

section
open Cert.KernelIdeal Cert.KernelIdeal.Gen

section
variable (V : Valuation τ sig (Elt Ideal))

theorem scale_eq : StableHlo.after (hostOps0 (F := Ideal)) V (Proc.devRef .tc main_v0) = shapeCast S1x64 (V (Proc.devRef .tc main_arg4)) shapeCasts_S64_S1x64 := by
  after_results
  rfl

theorem shift_eq : StableHlo.after (hostOps0 (F := Ideal)) V (Proc.devRef .tc main_v1) = shapeCast S1x64 (V (Proc.devRef .tc main_arg5)) shapeCasts_S64_S1x64 := by
  after_results
  rfl

theorem bias_eq : StableHlo.after (hostOps0 (F := Ideal)) V (Proc.devRef .tc main_v2) = shapeCast S1x1 (V (Proc.devRef .tc main_arg7)) shapeCasts_S1_S1x1 := by
  after_results
  rfl

end

theorem row_cast (g : FVec Ideal S64 .f32) (k : Fin 64) : shapeCast S1x64 g shapeCasts_S64_S1x64 (ix2 0 k) = g (ix1 k) := by
  pointwise

theorem one_cast (g : FVec Ideal S1 .f32) : shapeCast S1x1 g shapeCasts_S1_S1x1 (ix2 0 0) = g (ix1 0) := by
  pointwise

/-- The dense region's boundary logits, from what its windows read. -/
theorem array (V : (c : Dev nD) → (b : Ref sig .tc) → Buf (Elt Ideal) ((c : Thread nD τ).loc b)) (c : Dev nD)
    (x1 : FVec Ideal S20000x32 .f32) (x3 : FVec Ideal S32x64 .f32) (x4 x5 : FVec Ideal S64 .f32) (x6 : FVec Ideal S64x1 .f32) (x7 : FVec Ideal S1 .f32)
    (h1 : ∀ (r : Fin 20000) (j : Fin 32), V c main_arg1 (ix2 r j) = x1 (ix2 r j))
    (h3 : ∀ (j : Fin 32) (k : Fin 64), V c main_arg3 (ix2 j k) = x3 (ix2 j k))
    (h4 : ∀ k : Fin 64, V c main_v0 (ix2 (0 : Fin 1) k) = x4 (ix1 k)) (h5 : ∀ k : Fin 64, V c main_v1 (ix2 (0 : Fin 1) k) = x5 (ix1 k))
    (h6 : ∀ (j : Fin 64) (k : Fin 1), V c main_arg6 (ix2 j k) = x6 (ix2 j k)) (h7 : V c main_v2 (ix2 (0 : Fin 1) (0 : Fin 1)) = x7 (ix1 0)) :
    (Dense.dat (F := Ideal) (U := Cert.Run.UU) V c).arrAt 11 cfg0.N = bdyArr x1 x3 x4 x5 x6 x7 := by
  refine array_of c (Dense.dat (F := Ideal) (U := Cert.Run.UU) V c) (bdyArr x1 x3 x4 x5 x6 x7) fun t r => ?_
  rw [left]
  refine (block_bdy (Dense.iblk V c 0 t) (Dense.iblk V c 2 t) (Dense.iblk V c 3 t) (Dense.iblk V c 4 t) (Dense.iblk V c 5 t) (Dense.iblk V c 6 t) r).trans ?_
  refine Eq.trans ?_ (logits_at (fun r j => x1 (ix2 r j)) (fun j k => x3 (ix2 j k)) (fun k => x4 (ix1 k)) (fun k => x5 (ix1 k)) (fun j k => x6 (ix2 j k)) (x7 (ix1 0)) (pt t r)).symm
  have e0 : (fun j => Dense.iblk V c 0 t (ix2 r j)) = fun j : Fin 32 => x1 (ix2 (pt t r) j) := funext fun j => (blk0 V c t r j).trans (h1 _ _)
  have e2 : (fun j k => Dense.iblk V c 2 t (ix2 j k)) = fun (j : Fin 32) (k : Fin 64) => x3 (ix2 j k) := funext fun j => funext fun k => (blk2 V c t j k).trans (h3 _ _)
  have e3 : (fun k => Dense.iblk V c 3 t (ix2 (0 : Fin 1) k)) = fun k : Fin 64 => x4 (ix1 k) := funext fun k => (blk3 V c t 0 k).trans (h4 _)
  have e4 : (fun k => Dense.iblk V c 4 t (ix2 (0 : Fin 1) k)) = fun k : Fin 64 => x5 (ix1 k) := funext fun k => (blk4 V c t 0 k).trans (h5 _)
  have e5 : (fun j k => Dense.iblk V c 5 t (ix2 j k)) = fun (j : Fin 64) (k : Fin 1) => x6 (ix2 j k) := funext fun j => funext fun k => (blk5 V c t j k).trans (h6 _ _)
  have e6 : Dense.iblk V c 6 t (ix2 (0 : Fin 1) (0 : Fin 1)) = x7 (ix1 0) := (blk6 V c t 0 0).trans h7
  exact congr (congrArg HAdd.hAdd (congrFun (congr (congrArg lin (congr (congr (congrArg norm (congr (congrArg lin e0) e2)) e3) e4)) e5) 0)) e6

variable (m : (l : Loc nD τ sig) → Buf (Elt Ideal) l) (c : Dev nD)

/-- The program's boundary logits after the run. -/
theorem bdy_of_run : V13 m (Cert.Run.outs m) c main_v3_1 = bdyArr (m ((c : Thread nD τ).loc main_arg1)) (m ((c : Thread nD τ).loc main_arg3))
    (m ((c : Thread nD τ).loc main_arg4)) (m ((c : Thread nD τ).loc main_arg5)) (m ((c : Thread nD τ).loc main_arg6)) (m ((c : Thread nD τ).loc main_arg7)) := by
  refine (V13_of m _ c main_v3_1 (by decide)).trans <| (V12_of m _ c main_v3_1 (by decide)).trans <|
    (V11_of m _ c main_v3_1 (by decide)).trans <| (V10_of m _ c main_v3_1 (by decide)).trans <|
    (V9_of m _ c main_v3_1 (by decide)).trans <| (V8_of m _ c main_v3_1 (by decide)).trans <|
    (V7_of m _ c main_v3_1 (by decide)).trans <| (V6_of m _ c main_v3_1 (by decide)).trans <|
    (V5_of m _ c main_v3_1 (by decide)).trans <| (V4_of m _ c main_v3_1 (by decide)).trans <|
    (V3_of m _ c main_v3_1 (by decide)).trans <| (Cert.Run.vp0_1 m c).trans ?_
  refine array (Cert.Run.VA m) c _ _ _ _ _ _ ?_ ?_ ?_ ?_ ?_ ?_
  · exact fun r j => congrFun ((Cert.Run.VA_eq m c main_arg1).trans (V1_of m c main_arg1 (by decide))) (ix2 r j)
  · exact fun j k => congrFun ((Cert.Run.VA_eq m c main_arg3).trans (V1_of m c main_arg3 (by decide))) (ix2 j k)
  · exact fun k => (congrFun ((Cert.Run.VA_eq m c main_v0).trans (scale_eq (V0 m c))) (ix2 0 k)).trans (row_cast _ k)
  · exact fun k => (congrFun ((Cert.Run.VA_eq m c main_v1).trans (shift_eq (V0 m c))) (ix2 0 k)).trans (row_cast _ k)
  · exact fun j k => congrFun ((Cert.Run.VA_eq m c main_arg6).trans (V1_of m c main_arg6 (by decide))) (ix2 j k)
  · exact (congrFun ((Cert.Run.VA_eq m c main_v2).trans (bias_eq (V0 m c))) (ix2 0 0)).trans (one_cast _)

end

end Cert.Bdy
-- ==== Proof.Wins.lean ====
module

public import proofs.«01_k».proof.Proof.Bdy

/-! # The queries, the keys' and the values' rows that the dense region leaves -/

set_option maxRecDepth 16384

@[expose] public section

noncomputable section

namespace Cert.Bdy

open Idealize.ShloMosaic Idealize.ShloMosaic.TcCoe Idealize.SL.Sem
open Cert.KernelIdeal Cert.KernelIdeal.Gen
open Idealize.ShloMosaic.Pipeline (Dat)

/-- The features of a point. -/
def feat (x1 : FVec Ideal S20000x32 .f32) (x3 : FVec Ideal S32x64 .f32) (x4 x5 : FVec Ideal S64 .f32) (p : Fin 20000) : Fin 64 → EReal :=
  norm (lin (fun j => x1 (ix2 p j)) fun j k => x3 (ix2 j k)) (fun k => x4 (ix1 k)) (fun k => x5 (ix1 k))

/-- Rows times a matrix. -/
def proj {a : ℕ} (f : Fin 20000 → Fin a → EReal) (W : FVec Ideal ⟨2, ![a, 64]⟩ .f32) : FVec Ideal S20000x64 .f32 :=
  fun i => lin (f (i 0)) (fun j k => W (ix2 j k)) (i 1)

theorem proj_at {a : ℕ} (f : Fin 20000 → Fin a → EReal) (W : FVec Ideal ⟨2, ![a, 64]⟩ .f32) (p : Fin 20000) (k : Fin 64) :
    proj f W (ix2 p k) = lin (f p) (fun j k => W (ix2 j k)) k := rfl

theorem block_query (v : FVec Ideal S2000x64 .f32) (w : FVec Ideal S64x64 .f32) (r : Fin 2000) (k : Fin 64) :
    k0_pay2 (F := Ideal) v w (ix2 r k) = lin (fun j => v (ix2 r j)) (fun j k => w (ix2 j k)) k := by
  unfold k0_pay2 lin
  pointwise

theorem block_key (v : FVec Ideal S2000x64 .f32) (w : FVec Ideal S64x64 .f32) (r : Fin 2000) (k : Fin 64) :
    k0_pay3 (F := Ideal) v w (ix2 r k) = lin (fun j => v (ix2 r j)) (fun j k => w (ix2 j k)) k := by
  unfold k0_pay3 lin
  pointwise

theorem block_value (v : FVec Ideal S2000x32 .f32) (w : FVec Ideal S32x64 .f32) (r : Fin 2000) (k : Fin 64) :
    k0_pay4 (F := Ideal) v w (ix2 r k) = lin (fun j => v (ix2 r j)) (fun j k => w (ix2 j k)) k := by
  unfold k0_pay4 lin
  pointwise

/-- The blocks of the other windows. -/
theorem places' : ∀ t : Fin cfg0.N, win0_1.index t = ![t.val, 0] ∧ win0_7.index t = ![0, 0] ∧ win0_8.index t = ![0, 0]
    ∧ win0_9.index t = ![0, 0] ∧ win0_12.index t = ![t.val, 0] ∧ win0_13.index t = ![t.val, 0] ∧ win0_14.index t = ![t.val, 0] :=
  (by decide +kernel : ∀ t : Fin grid0.N, _)

section blocks
variable (V : (c : Dev nD) → (b : Ref sig .tc) → Buf (Elt Ideal) ((c : Thread nD τ).loc b)) (c : Dev nD) (t : Fin cfg0.N)

theorem blk1 (r : Fin 2000) (j : Fin 32) : Dense.iblk V c 1 t (ix2 r j) = V c main_arg2 (ix2 (pt t r) j) := by
  blk_ext [Dense.iblk, places' t, pt]

theorem blk7 (j k : Fin 64) : Dense.iblk V c 7 t (ix2 j k) = V c main_arg8 (ix2 j k) := by
  blk_ext [Dense.iblk, places' t]

theorem blk8 (j k : Fin 64) : Dense.iblk V c 8 t (ix2 j k) = V c main_arg9 (ix2 j k) := by
  blk_ext [Dense.iblk, places' t]

theorem blk9 (j : Fin 32) (k : Fin 64) : Dense.iblk V c 9 t (ix2 j k) = V c main_arg10 (ix2 j k) := by
  blk_ext [Dense.iblk, places' t]

end blocks

theorem covered12 : (cfg0.win 12).Covers := by decide +kernel
theorem covered13 : (cfg0.win 13).Covers := by decide +kernel
theorem covered14 : (cfg0.win 14).Covers := by decide +kernel

theorem array_of12 (c : Dev nD) (D : Dat τ (Elt Ideal) Unit ℕ Cert.Run.UU ℕ cfg0 c) (G : FVec Ideal S20000x64 .f32)
    (h : ∀ (t : Fin cfg0.N) (r : Fin 2000) (k : Fin 64), D.after 12 t (ix2 r k) = G (ix2 (pt t r) k)) : D.arrAt 12 cfg0.N = G := by
  refine D.arrAt_eq_of_covers 12 _ covered12 fun t _ y => ?_
  blk_simp
  have hy : ∀ z : S2000x64.Idx, z = ix2 (z 0 : Fin 2000) (z 1 : Fin 64) := fun z => by blk_ext
  have e : ∀ z : S2000x64.Idx, (win0_12.blk t).view.emb z = ix2 (pt t (z 0)) (z 1 : Fin 64) := fun z => by blk_ext [places' t, pt]
  exact ((congrArg (D.after 12 t) (hy y)).trans (h t (y 0) (y 1))).trans (congrArg G (e y).symm)

theorem array_of13 (c : Dev nD) (D : Dat τ (Elt Ideal) Unit ℕ Cert.Run.UU ℕ cfg0 c) (G : FVec Ideal S20000x64 .f32)
    (h : ∀ (t : Fin cfg0.N) (r : Fin 2000) (k : Fin 64), D.after 13 t (ix2 r k) = G (ix2 (pt t r) k)) : D.arrAt 13 cfg0.N = G := by
  refine D.arrAt_eq_of_covers 13 _ covered13 fun t _ y => ?_
  blk_simp
  have hy : ∀ z : S2000x64.Idx, z = ix2 (z 0 : Fin 2000) (z 1 : Fin 64) := fun z => by blk_ext
  have e : ∀ z : S2000x64.Idx, (win0_13.blk t).view.emb z = ix2 (pt t (z 0)) (z 1 : Fin 64) := fun z => by blk_ext [places' t, pt]
  exact ((congrArg (D.after 13 t) (hy y)).trans (h t (y 0) (y 1))).trans (congrArg G (e y).symm)

theorem array_of14 (c : Dev nD) (D : Dat τ (Elt Ideal) Unit ℕ Cert.Run.UU ℕ cfg0 c) (G : FVec Ideal S20000x64 .f32)
    (h : ∀ (t : Fin cfg0.N) (r : Fin 2000) (k : Fin 64), D.after 14 t (ix2 r k) = G (ix2 (pt t r) k)) : D.arrAt 14 cfg0.N = G := by
  refine D.arrAt_eq_of_covers 14 _ covered14 fun t _ y => ?_
  blk_simp
  have hy : ∀ z : S2000x64.Idx, z = ix2 (z 0 : Fin 2000) (z 1 : Fin 64) := fun z => by blk_ext
  have e : ∀ z : S2000x64.Idx, (win0_14.blk t).view.emb z = ix2 (pt t (z 0)) (z 1 : Fin 64) := fun z => by blk_ext [places' t, pt]
  exact ((congrArg (D.after 14 t) (hy y)).trans (h t (y 0) (y 1))).trans (congrArg G (e y).symm)

section left
variable {F : FTy → Type} [FloatOps F] (V : (c : Dev nD) → (b : Ref sig .tc) → Buf (Elt F) ((c : Thread nD τ).loc b)) (c : Dev nD) (t : Fin cfg0.N)

theorem left12 : (Dense.dat (F := F) (U := Cert.Run.UU) V c).after 12 t
    = k0_pay2 (k0_pay5 (Dense.iblk V c 0 t) (Dense.iblk V c 2 t) (Dense.iblk V c 3 t) (Dense.iblk V c 4 t)) (Dense.iblk V c 7 t) := by
  dsimp only [Dense.dat]

theorem left13 : (Dense.dat (F := F) (U := Cert.Run.UU) V c).after 13 t
    = k0_pay3 (k0_pay5 (Dense.iblk V c 0 t) (Dense.iblk V c 2 t) (Dense.iblk V c 3 t) (Dense.iblk V c 4 t)) (Dense.iblk V c 8 t) := by
  dsimp only [Dense.dat]

theorem left14 : (Dense.dat (F := F) (U := Cert.Run.UU) V c).after 14 t = k0_pay4 (Dense.iblk V c 1 t) (Dense.iblk V c 9 t) := by
  dsimp only [Dense.dat]

end left

variable (m : (l : Loc nD τ sig) → Buf (Elt Ideal) l) (c : Dev nD)

/-- The features of the program's arguments. -/
abbrev mfeat : Fin 20000 → Fin 64 → EReal := feat (m ((c : Thread nD τ).loc main_arg1)) (m ((c : Thread nD τ).loc main_arg3))
  (m ((c : Thread nD τ).loc main_arg4)) (m ((c : Thread nD τ).loc main_arg5))

/-- The features of a row of a block are those of its point. -/
theorem feat_block (t : Fin cfg0.N) (r : Fin 2000) (k : Fin 64) :
    k0_pay5 (F := Ideal) (Dense.iblk (Cert.Run.VA m) c 0 t) (Dense.iblk (Cert.Run.VA m) c 2 t) (Dense.iblk (Cert.Run.VA m) c 3 t) (Dense.iblk (Cert.Run.VA m) c 4 t) (ix2 r k)
      = mfeat m c (pt t r) k := by
  refine (block_feat (Dense.iblk (Cert.Run.VA m) c 0 t) (Dense.iblk (Cert.Run.VA m) c 2 t) (Dense.iblk (Cert.Run.VA m) c 3 t) (Dense.iblk (Cert.Run.VA m) c 4 t) r k).trans ?_
  have e0 : (fun j => Dense.iblk (Cert.Run.VA m) c 0 t (ix2 r j)) = fun j : Fin 32 => m ((c : Thread nD τ).loc main_arg1) (ix2 (pt t r) j) :=
    funext fun j => (blk0 (Cert.Run.VA m) c t r j).trans (congrFun ((Cert.Run.VA_eq m c main_arg1).trans (V1_of m c main_arg1 (by decide))) _)
  have e2 : (fun j k => Dense.iblk (Cert.Run.VA m) c 2 t (ix2 j k)) = fun (j : Fin 32) (k : Fin 64) => m ((c : Thread nD τ).loc main_arg3) (ix2 j k) :=
    funext fun j => funext fun k => (blk2 (Cert.Run.VA m) c t j k).trans (congrFun ((Cert.Run.VA_eq m c main_arg3).trans (V1_of m c main_arg3 (by decide))) _)
  have e3 : (fun k => Dense.iblk (Cert.Run.VA m) c 3 t (ix2 (0 : Fin 1) k)) = fun k : Fin 64 => m ((c : Thread nD τ).loc main_arg4) (ix1 k) :=
    funext fun k => (blk3 (Cert.Run.VA m) c t 0 k).trans ((congrFun ((Cert.Run.VA_eq m c main_v0).trans (scale_eq (V0 m c))) (ix2 0 k)).trans (row_cast _ k))
  have e4 : (fun k => Dense.iblk (Cert.Run.VA m) c 4 t (ix2 (0 : Fin 1) k)) = fun k : Fin 64 => m ((c : Thread nD τ).loc main_arg5) (ix1 k) :=
    funext fun k => (blk4 (Cert.Run.VA m) c t 0 k).trans ((congrFun ((Cert.Run.VA_eq m c main_v1).trans (shift_eq (V0 m c))) (ix2 0 k)).trans (row_cast _ k))
  exact congrFun (congr (congr (congrArg norm (congr (congrArg lin e0) e2)) e3) e4) k

/-- The queries after the dense region. -/
theorem query_run : V2 m (Cert.Run.outs m) c main_v3_2 = proj (mfeat m c) (m ((c : Thread nD τ).loc main_arg8)) := by
  refine (Cert.Run.vp0_2 m c).trans (array_of12 c (Dense.dat (F := Ideal) (U := Cert.Run.UU) (Cert.Run.VA m) c) _ fun t r k => ?_)
  rw [left12]
  refine (block_query _ (Dense.iblk (Cert.Run.VA m) c 7 t) r k).trans ?_
  have e1 : _ = mfeat m c (pt t r) := funext fun k => feat_block m c t r k
  have e2 : (fun j k => Dense.iblk (Cert.Run.VA m) c 7 t (ix2 j k)) = fun (j k : Fin 64) => m ((c : Thread nD τ).loc main_arg8) (ix2 j k) :=
    funext fun j => funext fun k => (blk7 (Cert.Run.VA m) c t j k).trans (congrFun ((Cert.Run.VA_eq m c main_arg8).trans (V1_of m c main_arg8 (by decide))) _)
  exact congrFun (congr (congrArg lin e1) e2) k

/-- The keys' rows after the dense region. -/
theorem key_run : V2 m (Cert.Run.outs m) c main_v3_3 = proj (mfeat m c) (m ((c : Thread nD τ).loc main_arg9)) := by
  refine (Cert.Run.vp0_3 m c).trans (array_of13 c (Dense.dat (F := Ideal) (U := Cert.Run.UU) (Cert.Run.VA m) c) _ fun t r k => ?_)
  rw [left13]
  refine (block_key _ (Dense.iblk (Cert.Run.VA m) c 8 t) r k).trans ?_
  have e1 : _ = mfeat m c (pt t r) := funext fun k => feat_block m c t r k
  have e2 : (fun j k => Dense.iblk (Cert.Run.VA m) c 8 t (ix2 j k)) = fun (j k : Fin 64) => m ((c : Thread nD τ).loc main_arg9) (ix2 j k) :=
    funext fun j => funext fun k => (blk8 (Cert.Run.VA m) c t j k).trans (congrFun ((Cert.Run.VA_eq m c main_arg9).trans (V1_of m c main_arg9 (by decide))) _)
  exact congrFun (congr (congrArg lin e1) e2) k

/-- The values' rows after the dense region. -/
theorem value_run : V2 m (Cert.Run.outs m) c main_v3_4 =
    proj (fun p j => m ((c : Thread nD τ).loc main_arg2) (ix2 p j)) (m ((c : Thread nD τ).loc main_arg10)) := by
  refine (Cert.Run.vp0_4 m c).trans (array_of14 c (Dense.dat (F := Ideal) (U := Cert.Run.UU) (Cert.Run.VA m) c) _ fun t r k => ?_)
  rw [left14]
  refine (block_value (Dense.iblk (Cert.Run.VA m) c 1 t) (Dense.iblk (Cert.Run.VA m) c 9 t) r k).trans ?_
  have e1 : (fun j => Dense.iblk (Cert.Run.VA m) c 1 t (ix2 r j)) = fun j : Fin 32 => m ((c : Thread nD τ).loc main_arg2) (ix2 (pt t r) j) :=
    funext fun j => (blk1 (Cert.Run.VA m) c t r j).trans (congrFun ((Cert.Run.VA_eq m c main_arg2).trans (V1_of m c main_arg2 (by decide))) _)
  have e2 : (fun j k => Dense.iblk (Cert.Run.VA m) c 9 t (ix2 j k)) = fun (j : Fin 32) (k : Fin 64) => m ((c : Thread nD τ).loc main_arg10) (ix2 j k) :=
    funext fun j => funext fun k => (blk9 (Cert.Run.VA m) c t j k).trans (congrFun ((Cert.Run.VA_eq m c main_arg10).trans (V1_of m c main_arg10 (by decide))) _)
  exact congrFun (congr (congrArg lin e1) e2) k

end Cert.Bdy
-- ==== Proof.Real.lean ====
module

public import proofs.«01_k».proof.Proof.Wins

/-! # Finite numbers stay finite

Where the numbers the queries are computed from are finite the queries are, so that multiplying by a query distributes over a sum. -/

set_option maxRecDepth 16384

@[expose] public section

noncomputable section

namespace Cert.Fine

open Idealize.ShloMosaic
open Cert.Bdy (lin mean norm)

/-- A number that is not infinite. -/
def Fin' (x : EReal) : Prop := ∃ r : ℝ, x = (r : EReal)

theorem of_abs (x : EReal) (h : max x (-x) < ⊤) : Fin' x := by
  induction x using EReal.rec with
  | bot => exact absurd h (by simp)
  | top => exact absurd h (by simp)
  | coe r => exact ⟨r, rfl⟩

theorem add {x y : EReal} (hx : Fin' x) (hy : Fin' y) : Fin' (x + y) := by
  obtain ⟨a, rfl⟩ := hx
  obtain ⟨b, rfl⟩ := hy
  exact ⟨a + b, (EReal.coe_add a b).symm⟩

theorem sub {x y : EReal} (hx : Fin' x) (hy : Fin' y) : Fin' (x - y) := by
  obtain ⟨a, rfl⟩ := hx
  obtain ⟨b, rfl⟩ := hy
  exact ⟨a - b, (EReal.coe_sub a b).symm⟩

theorem mul {x y : EReal} (hx : Fin' x) (hy : Fin' y) : Fin' (x * y) := by
  obtain ⟨a, rfl⟩ := hx
  obtain ⟨b, rfl⟩ := hy
  exact ⟨a * b, (EReal.coe_mul a b).symm⟩

theorem max_zero {x : EReal} (hx : Fin' x) : Fin' (max x 0) := by
  rcases max_choice x 0 with h | h
  · rw [h]; exact hx
  · rw [h]; exact ⟨0, rfl⟩

theorem sum {n : ℕ} (f : Fin n → EReal) (h : ∀ i, Fin' (f i)) : Fin' (∑ i, f i) := by
  refine Finset.sum_induction f Fin' (fun _ _ => add) ⟨0, rfl⟩ fun i _ => h i

theorem div {x : EReal} (hx : Fin' x) (y : ℝ) (hy : y ≠ 0) : Fin' (Ideal.div x (y : EReal)) := by
  rw [Ideal.div_coe hy]
  exact mul hx ⟨_, rfl⟩

theorem count : Ideal.ofBits .f32 0x42800000#32 = ((64 : ℝ) : EReal) := by
  simp [Ideal.ofBits, Ideal.ieee, -EReal.coe_mul]
  norm_num

/-- The number added under the root is positive. -/
theorem small : ∃ e : ℝ, 0 < e ∧ Ideal.ofBits .f32 0x3727C5AC#32 = (e : EReal) := by
  refine ⟨(10995116 : ℝ) * (2 ^ 40)⁻¹, by positivity, ?_⟩
  simp [Ideal.ofBits, Ideal.ieee, -EReal.coe_mul]

theorem lin_fin {a b : ℕ} (x : Fin a → EReal) (W : Fin a → Fin b → EReal) (hx : ∀ j, Fin' (x j)) (hW : ∀ j k, Fin' (W j k)) (k : Fin b) :
    Fin' (lin x W k) := sum _ fun j => mul (hx j) (hW j k)

/-- A sum of squares of finite numbers is finite and not negative. -/
theorem squares (f : Fin 64 → EReal) (h : ∀ j, Fin' (f j)) : ∃ s : ℝ, 0 ≤ s ∧ ∑ j, f j * f j = (s : EReal) := by
  choose r hr using h
  refine ⟨∑ j, r j * r j, Finset.sum_nonneg fun j _ => mul_self_nonneg _, ?_⟩
  rw [show ((∑ j, r j * r j : ℝ) : EReal) = ∑ j, ((r j * r j : ℝ) : EReal) from map_sum (⟨⟨Real.toEReal, rfl⟩, EReal.coe_add⟩ : ℝ →+ EReal) _ _]
  exact Finset.sum_congr rfl fun j _ => by rw [hr j, EReal.coe_mul]

theorem square_nonneg (x : EReal) : 0 ≤ x * x := by
  induction x using EReal.rec with
  | bot => simp
  | top => simp
  | coe r => exact_mod_cast mul_self_nonneg r

/-- Numbers are all finite, or their squares sum to infinity. -/
theorem far (f : Fin 64 → EReal) : (∀ j, Fin' (f j)) ∨ ∑ j, f j * f j = ⊤ := by
  by_cases h : ∀ j, Fin' (f j)
  · exact Or.inl h
  · obtain ⟨j, hj⟩ := not_forall.mp h
    have e : f j * f j = ⊤ := by
      induction hx : f j using EReal.rec with
      | bot => simp
      | top => simp
      | coe r => exact absurd ⟨r, hx⟩ hj
    exact Or.inr (top_le_iff.mp (e.symm.le.trans (Finset.single_le_sum (f := fun j => f j * f j) (fun i _ => square_nonneg (f i)) (Finset.mem_univ j))))

theorem norm_fin (p g b : Fin 64 → EReal) (hg : ∀ j, Fin' (g j)) (hb : ∀ j, Fin' (b j)) (k : Fin 64) : Fin' (norm p g b k) := by
  obtain ⟨e, he, ee⟩ := small
  unfold Cert.Bdy.norm
  refine max_zero (add (mul ?_ (hg k)) (hb k))
  rcases far (fun j => p j - mean p) with hp | ht
  · obtain ⟨s, hs, es⟩ := squares (fun j => p j - mean p) hp
    have hq : 0 < s * (1 / 64) + e := by positivity
    rw [es, ee, count, Ideal.div_coe (by norm_num), ← EReal.coe_mul, ← EReal.coe_add, Ideal.sqrt_coe, if_neg hq.le.not_gt]
    exact div (hp k) _ (Real.sqrt_pos.mpr hq).ne'
  · rw [ht, ee, count, Ideal.div_coe (by norm_num), EReal.top_mul_coe_of_pos (by norm_num), EReal.top_add_coe, Ideal.sqrt_top, Ideal.div, if_neg EReal.top_ne_zero,
      EReal.inv_top, mul_zero]
    exact ⟨0, rfl⟩

/-- A finite number times a sum whose second term is finite. -/
theorem mul_add' {q x y : EReal} (hq : Fin' q) (hy : Fin' y) : q * (x + y) = q * x + q * y := by
  obtain ⟨q, rfl⟩ := hq
  obtain ⟨y, rfl⟩ := hy
  induction x using EReal.rec with
  | coe x =>
    rw [← EReal.coe_add, ← EReal.coe_mul, ← EReal.coe_mul, ← EReal.coe_mul, ← EReal.coe_add, mul_add]
  | bot =>
    rw [EReal.bot_add]
    rcases lt_trichotomy q 0 with h | h | h
    · rw [EReal.coe_mul_bot_of_neg h, ← EReal.coe_mul, EReal.top_add_coe]
    · subst h; simp
    · rw [EReal.coe_mul_bot_of_pos h, EReal.bot_add]
  | top =>
    rw [EReal.top_add_coe]
    rcases lt_trichotomy q 0 with h | h | h
    · rw [EReal.coe_mul_top_of_neg h, EReal.bot_add]
    · subst h; simp
    · rw [EReal.coe_mul_top_of_pos h, ← EReal.coe_mul, EReal.top_add_coe]

/-- The terms of the keys and of the positions can be summed apart. -/
theorem apart {n : ℕ} (q a b : Fin n → EReal) (hq : ∀ i, Fin' (q i)) (hb : ∀ i, Fin' (b i)) :
    ∑ i, q i * (a i + b i) = (∑ i, q i * a i) + ∑ i, q i * b i := by
  rw [← Finset.sum_add_distrib]
  exact Finset.sum_congr rfl fun i _ => mul_add' (hq i) (hb i)

/-- A sum in which one number alone is taken once and the others not at all. -/
theorem pick {n : ℕ} (f : Fin n → EReal) (i : Fin n) : ∑ j, (if i = j then 1 else 0) * f j = f i := by
  rw [Finset.sum_eq_single i]
  · rw [if_pos rfl, one_mul]
  · intro j _ h
    rw [if_neg (Ne.symm h), zero_mul]
  · intro h
    exact absurd (Finset.mem_univ i) h

end Cert.Fine
-- ==== Proof.Small.lean ====
module

public import proofs.«01_k».proof.Proof.Keys
public import proofs.«01_k».proof.Proof.Real
public import proofs.«01_k».proof.Pre_in_range
public import Idealize.ShloMosaic.Lib.ReduceAll
public import Idealize.ShloMosaic.Lib.Affine
public import Idealize.ShloMosaic.Lib.Pipeline.ValueKit

/-! # The precondition, read as a bound on the coordinates and as the finiteness of four arrays -/

set_option maxRecDepth 16384

@[expose] public section

noncomputable section

namespace Cert.Small

open Idealize.ShloMosaic Cert.Pre_in_range
open Cert.Knn (crd Small)

variable [Cert.Pre_in_range.Facts]

instance : Subsingleton S_.Idx := ⟨fun _ _ => funext fun k => k.elim0⟩

/-- A coordinate of the slice of the points that leaves out the first column. -/
theorem coord (A : IVec S20000x4 32) (p : Fin 20000) (j : Fin 3) :
    extractStridedSlice S20000x3 ![0, 1] A Facts.slices_S20000x4_S20000x3_0_1 (ix2 p j) = A (ix2 p j.succ) := by
  pointwise
  blk_ext
  simp [Nat.add_comm]

/-- A number that is at least 0 and below 64 as a signed one is below 64 as an unsigned one. -/
theorem below (x : BitVec 32) (h0 : (0#32).sle x = true) (h1 : x.slt 64#32 = true) : x.toNat < 64 := by
  rw [BitVec.sle, decide_eq_true_iff] at h0
  rw [BitVec.slt, decide_eq_true_iff] at h1
  have e0 : (0#32).toInt = 0 := by decide
  have e1 : (64#32).toInt = 64 := by decide
  rw [e0] at h0
  rw [e1] at h1
  have := x.isLt
  rw [BitVec.toInt_eq_toNat_cond] at h0 h1
  split at h0 <;> omega

/-- Where the precondition holds the coordinates are below 64. -/
theorem of_range {A : IVec S20000x4 32}
    (h : Host.reduce IntOp.andi
      (andi (cmpi .sge (extractStridedSlice S20000x3 ![0, 1] A Facts.slices_S20000x4_S20000x3_0_1)
          (broadcastInDim S20000x3 ![] Facts.bcast_S_S20000x3 (constantI S_ 32 0#32)))
        (cmpi .slt (extractStridedSlice S20000x3 ![0, 1] A Facts.slices_S20000x4_S20000x3_0_1)
          (broadcastInDim S20000x3 ![] Facts.bcast_S_S20000x3 (constantI S_ 32 64#32))))
      (constantI S_ 1 1#1) Facts.reducesTo_S20000x3_S_d0_1 Facts.h_S_ = fun _ => 1#1) : Small A := by
  intro p j
  have e := Host.reduce_andi_all _ _ _ _ (Shape.Idx.first Facts.h_S_) (congrFun h _) (ix2 p j)
  obtain ⟨a, b⟩ := IntOp.andi_eq_one.1 e
  have a' : BitVec.ofBool ((0#32).sle (extractStridedSlice S20000x3 ![0, 1] A Facts.slices_S20000x4_S20000x3_0_1 (ix2 p j))) = 1#1 := a
  have b' : BitVec.ofBool ((extractStridedSlice S20000x3 ![0, 1] A Facts.slices_S20000x4_S20000x3_0_1 (ix2 p j)).slt 64#32) = 1#1 := b
  rw [coord] at a' b'
  refine below _ ?_ ?_
  · cases g : (0#32).sle (A (ix2 p j.succ)) with
    | true => rfl
    | false => rw [g] at a'; exact absurd a' (by decide)
  · cases g : (A (ix2 p j.succ)).slt 64#32 with
    | true => rfl
    | false => rw [g] at b'; exact absurd b' (by decide)

/-- Two conditions that hold together hold each. -/
theorem both {a b : IVec S_ 1} (h : andi a b = fun _ => 1#1) : (a = fun _ => 1#1) ∧ (b = fun _ => 1#1) :=
  ⟨funext fun i => (IntOp.andi_eq_one.1 (congrFun h i)).1, funext fun i => (IntOp.andi_eq_one.1 (congrFun h i)).2⟩

/-- Where the absolute values of all the elements of an array are below the infinity the elements are finite. -/
theorem of_finite {s : Shape} {axes : List (Fin s.rank)} (x : FVec Ideal s .f32) (hb : S_.BroadcastsInDim s (![] : Fin 0 → Fin s.rank)) (hr : s.ReducesTo axes S_) (hs : 0 < S_.numel)
    (h : Host.reduce IntOp.andi (cmpf .olt (Host.absf x) (broadcastInDim s ![] hb (constant S_ .f32 0x7F800000#32))) (constantI S_ 1 1#1) hr hs = fun _ => 1#1)
    (i : s.Idx) : Cert.Fine.Fin' (x i) := by
  have e := Host.reduce_andi_all _ _ _ _ (Shape.Idx.first hs) (congrFun h _) i
  have e' : BitVec.ofBool (decide (max (x i) (-(x i)) < Ideal.ofBits .f32 0x7F800000#32)) = 1#1 := e
  have top : Ideal.ofBits .f32 0x7F800000#32 = ⊤ := by simp [Ideal.ofBits, Ideal.ieee]
  rw [top] at e'
  refine Cert.Fine.of_abs _ ?_
  by_contra hn
  rw [decide_eq_false hn] at e'
  exact absurd e' (by decide)

/-- What the precondition says. -/
theorem of_pre (x0 : IVec S20000x4 32) (x1 x2 : FVec Ideal S20000x32 .f32) (x3 : FVec Ideal S32x64 .f32) (x4 x5 : FVec Ideal S64 .f32)
    (x6 : FVec Ideal S64x1 .f32) (x7 : FVec Ideal S1 .f32) (x8 x9 : FVec Ideal S64x64 .f32) (x10 : FVec Ideal S32x64 .f32) (x11 : FVec Ideal S27x64 .f32)
    (x12 : FVec Ideal S64x64 .f32) (x13 : FVec Ideal S64 .f32) (x14 : FVec Ideal S64x13 .f32) (x15 : FVec Ideal S13 .f32)
    (h : fn (F := Ideal) x0 x1 x2 x3 x4 x5 x6 x7 x8 x9 x10 x11 x12 x13 x14 x15 = fun _ => 1#1) :
    Small x0 ∧ (∀ i, Cert.Fine.Fin' (x4 i)) ∧ (∀ i, Cert.Fine.Fin' (x5 i)) ∧ (∀ i, Cert.Fine.Fin' (x8 i)) ∧ ∀ i, Cert.Fine.Fin' (x11 i) := by
  obtain ⟨h, h11⟩ := both h
  obtain ⟨h, h8⟩ := both h
  obtain ⟨h, h5⟩ := both h
  obtain ⟨h, h4⟩ := both h
  exact ⟨of_range h, of_finite x4 Facts.bcast_S_S64 Facts.reducesTo_S64_S_d0 Facts.h_S_ h4, of_finite x5 Facts.bcast_S_S64 Facts.reducesTo_S64_S_d0 Facts.h_S_ h5,
    of_finite x8 Facts.bcast_S_S64x64 Facts.reducesTo_S64x64_S_d0_1 Facts.h_S_ h8, of_finite x11 Facts.bcast_S_S27x64 Facts.reducesTo_S27x64_S_d0_1 Facts.h_S_ h11⟩

end Cert.Small
-- ==== Proof.Soft.lean ====
module

public import proofs.«01_k».proof.Proof.Bdy
public import proofs.«01_k».proof.Proof.RefMask

/-! # The weights from the logits, and the output from the weights

Both programs apply the same formulas, the reference with an axis of one place more. -/

set_option maxRecDepth 16384

@[expose] public section

noncomputable section

namespace Cert.Soft

open Idealize.ShloMosaic Idealize.ShloMosaic.TcCoe Idealize.SL.Sem
open Cert.Bdy (lin)

/-- The greatest of 27 numbers, as a fold. -/
def top (l : Fin 27 → EReal) : EReal :=
  max (Ideal.ofBits .f32 0xFF800000#32) (Finset.univ.fold max (Ideal.ofBits .f32 0xFF800000#32) l)

/-- The exponential of a number less the greatest. -/
def ex (l : Fin 27 → EReal) (k : Fin 27) : EReal := Ideal.exp (l k - top l)

/-- The weights of 27 logits. -/
def soft (l : Fin 27 → EReal) (k : Fin 27) : EReal := Ideal.div (ex l k) (∑ j, ex l j)

/-- One where two words are equal and zero elsewhere. -/
theorem hot (x y : BitVec 32) : (FloatOps.uitofp (F := Ideal) .f32 (IntOp.cmpi .eq x y) : EReal) = if x = y then 1 else 0 := by
  show (((IntOp.cmpi .eq x y).toNat : ℝ) : EReal) = _
  by_cases h : x = y
  · subst h
    rw [if_pos rfl, show IntOp.cmpi .eq x x = 1#1 from by simp [IntOp.cmpi]]
    simp
  · rw [if_neg h, show IntOp.cmpi .eq x y = 0#1 from congrArg BitVec.ofBool (beq_eq_false_iff_ne.mpr h)]
    simp

/-- A choice by a bit. -/
theorem pick {α : Type} (b : BitVec 1) (x y : α) : Scalar.select b x y = if b = 1#1 then x else y := rfl

section
open Cert.KernelIdeal Cert.KernelIdeal.Gen

theorem k_ex (L : FVec Ideal S20000x27 .f32) (p : Fin 20000) (k : Fin 27) :
    Host.exp (subf L (broadcastInDim S20000x27 ![0, 1] bcast_S20000x1_S20000x27_0_1 (broadcastInDim S20000x1 ![0] bcast_S20000_S20000x1_0
      (maximumf (broadcastInDim S20000 ![] bcast_S_S20000 (constant S_ .f32 0xFF800000#32))
        (Host.reduce FloatOps.maximumf L (constant S_ .f32 0xFF800000#32) reducesTo_S20000x27_S20000_d1 h_S_))))) (ix2 p k)
      = ex (fun k => L (ix2 p k)) k := by
  unfold ex top
  pointwise

theorem k_soft (E : FVec Ideal S20000x27 .f32) (p : Fin 20000) (k : Fin 27) :
    Host.divf E (broadcastInDim S20000x27 ![0, 1] bcast_S20000x1_S20000x27_0_1 (broadcastInDim S20000x1 ![0] bcast_S20000_S20000x1_0
      (Host.reduceAdd E (constant S_ .f32 0x00000000#32) reducesTo_S20000x27_S20000_d1 h_S_))) (ix2 p k)
      = Ideal.div (E (ix2 p k)) (∑ j, E (ix2 p j)) := by
  pointwise

theorem k_mix (A : FVec Ideal S20000x27 .f32) (T : FVec Ideal S20000x27x64 .f32) (U : FVec Ideal S20000x64 .f32) (p : Fin 20000) (d : Fin 64) :
    addf (Host.dotGeneral dot_S20000x27_S20000x27x64_S20000x64_1_1_n_2_0_0 none A T) U (ix2 p d)
      = (∑ k, A (ix2 p k) * T (ix3 p k d)) + U (ix2 p d) := by
  pointwise

theorem k_logit (Q : FVec Ideal S20000x64 .f32) (K : FVec Ideal S20000x27x64 .f32) (O : FVec Ideal S20000x27x27 .f32) (P : FVec Ideal S20000x27 .f32)
    (p : Fin 20000) (k : Fin 27) :
    Host.divf (addf (Host.dotGeneral dot_S20000x64_S20000x27x64_S20000x27_1_2_n_1_0_0 none Q K) (Host.dotGeneral dot_S20000x27x27_S20000x27_S20000x27_2_1_1_n_0_0 none O P))
      (broadcastInDim S20000x27 ![] bcast_S_S20000x27 (constant S_ .f32 0x41000000#32)) (ix2 p k)
      = Ideal.div ((∑ d, Q (ix2 p d) * K (ix3 p k d)) + ∑ j, O (ix3 p k j) * P (ix2 p j)) (Ideal.ofBits .f32 0x41000000#32) := by
  pointwise

theorem k_pos (Q : FVec Ideal S20000x64 .f32) (E : FVec Ideal S27x64 .f32) (p : Fin 20000) (j : Fin 27) :
    Host.dotGeneral dot_S20000x64_S64x27_S20000x27_1_0_0_1_n_n none Q (transpose S64x27 [1, 0] E transposes_S27x64_S64x27_1_0) (ix2 p j)
      = ∑ d, Q (ix2 p d) * E (ix2 j d) := by
  pointwise

theorem k_hot (X : IVec S20000x27 32) (p : Fin 20000) (k j : Fin 27) :
    (uitofp (F := Ideal) .f32 (cmpi .eq (broadcastInDim S20000x27x27 ![0, 1, 2] bcast_S20000x27x1_S20000x27x27_0_1_2 (broadcastInDim S20000x27x1 ![0, 1] bcast_S20000x27_S20000x27x1_0_1 X))
      (broadcastInDim S20000x27x27 ![0, 1, 2] bcast_S1x1x27_S20000x27x27_0_1_2 (iotaInDim S1x1x27 32 2)))) (ix3 p k j)
      = if X (ix2 p k) = BitVec.ofNat 32 j.1 then 1 else 0 := by
  pointwise
  exact hot _ _

theorem k_where (M : IVec S20000x27 1) (L : FVec Ideal S20000x27 .f32) (p : Fin 20000) (k : Fin 27) :
    select M L (broadcastInDim S20000x27 ![] bcast_S_S20000x27 (id (constant S_ .f32 0xC61C4000#32))) (ix2 p k)
      = if M (ix2 p k) = 1#1 then L (ix2 p k) else Ideal.ofBits .f32 0xC61C4000#32 := by
  pointwise
  exact pick _ _ _

end

section
open Cert.ReferenceIdeal Cert.ReferenceIdeal.Gen

theorem r_ex (L : FVec Ideal S20000x1x27 .f32) (p : Fin 20000) (k : Fin 27) :
    Host.exp (subf L (broadcastInDim S20000x1x27 ![0, 1, 2] bcast_S20000x1x1_S20000x1x27_0_1_2 (broadcastInDim S20000x1x1 ![0, 1] bcast_S20000x1_S20000x1x1_0_1
      (maximumf (broadcastInDim S20000x1 ![] bcast_S_S20000x1 (constant S_ .f32 0xFF800000#32))
        (Host.reduce FloatOps.maximumf L (constant S_ .f32 0xFF800000#32) reducesTo_S20000x1x27_S20000x1_d2 h_S_))))) (ix3 p 0 k)
      = ex (fun k => L (ix3 p 0 k)) k := by
  unfold ex top
  pointwise

theorem r_soft (E : FVec Ideal S20000x1x27 .f32) (p : Fin 20000) (k : Fin 27) :
    Host.divf E (broadcastInDim S20000x1x27 ![0, 1, 2] bcast_S20000x1x1_S20000x1x27_0_1_2 (broadcastInDim S20000x1x1 ![0, 1] bcast_S20000x1_S20000x1x1_0_1
      (Host.reduceAdd E (constant S_ .f32 0x00000000#32) reducesTo_S20000x1x27_S20000x1_d2 h_S_))) (ix3 p 0 k)
      = Ideal.div (E (ix3 p 0 k)) (∑ j, E (ix3 p 0 j)) := by
  pointwise

theorem r_mix (A : FVec Ideal S20000x1x27 .f32) (T : FVec Ideal S20000x27x64 .f32) (U : FVec Ideal S20000x64 .f32) (p : Fin 20000) (d : Fin 64) :
    addf (shapeCast S20000x64 (Host.dotGeneral dot_S20000x1x27_S20000x27x64_S20000x1x64_2_1_1_2_0_0 none A T) shapeCasts_S20000x1x64_S20000x64) U (ix2 p d)
      = (∑ k, A (ix3 p 0 k) * T (ix3 p k d)) + U (ix2 p d) := by
  pointwise

theorem r_logit (Q : FVec Ideal S20000x64 .f32) (K : FVec Ideal S20000x27x64 .f32) (p : Fin 20000) (k : Fin 27) :
    Host.divf (Host.dotGeneral dot_S20000x1x64_S20000x27x64_S20000x1x27_2_2_1_1_0_0 none (broadcastInDim S20000x1x64 ![0, 2] bcast_S20000x64_S20000x1x64_0_2 Q) K)
      (broadcastInDim S20000x1x27 ![] bcast_S_S20000x1x27 (constant S_ .f32 0x41000000#32)) (ix3 p 0 k)
      = Ideal.div (∑ d, Q (ix2 p d) * K (ix3 p k d)) (Ideal.ofBits .f32 0x41000000#32) := by
  pointwise

theorem r_rows64 (X : FVec Ideal S20000x27x64 .f32) (W : FVec Ideal S64x64 .f32) (p : Fin 20000) (k : Fin 27) (d : Fin 64) :
    Host.dotGeneral dot_S20000x27x64_S64x64_S20000x27x64_2_0_01_1_n_n none X W (ix3 p k d) = lin (fun j => X (ix3 p k j)) (fun j k => W (ix2 j k)) d := by
  unfold lin
  pointwise

theorem r_rows32 (X : FVec Ideal S20000x27x32 .f32) (W : FVec Ideal S32x64 .f32) (p : Fin 20000) (k : Fin 27) (d : Fin 64) :
    Host.dotGeneral dot_S20000x27x32_S32x64_S20000x27x64_2_0_01_1_n_n none X W (ix3 p k d) = lin (fun j => X (ix3 p k j)) (fun j k => W (ix2 j k)) d := by
  unfold lin
  pointwise

theorem r_query (X : FVec Ideal S20000x64 .f32) (W : FVec Ideal S64x64 .f32) (p : Fin 20000) (d : Fin 64) :
    Host.dotGeneral dot_S20000x64_S64x64_S20000x64_1_0_0_1_n_n none X W (ix2 p d) = lin (fun j => X (ix2 p j)) (fun j k => W (ix2 j k)) d := by
  unfold lin
  pointwise

theorem r_where (M : IVec S20000x27 1) (L : FVec Ideal S20000x1x27 .f32) (p : Fin 20000) (k : Fin 27) :
    select (broadcastInDim S20000x1x27 ![0, 2] bcast_S20000x27_S20000x1x27_0_2 M) L (broadcastInDim S20000x1x27 ![] bcast_S_S20000x1x27 (id (constant S_ .f32 0xC61C4000#32))) (ix3 p 0 k)
      = if M (ix2 p k) = 1#1 then L (ix3 p 0 k) else Ideal.ofBits .f32 0xC61C4000#32 := by
  pointwise
  exact pick _ _ _

end

end Cert.Soft
-- ==== Proof.Table.lean ====
module

public import proofs.«01_k».proof.Proof.Tail

/-! # The table of keys, values and coordinates, and what is taken from it -/

set_option maxRecDepth 16384

@[expose] public section

noncomputable section

namespace Cert.Table

open Idealize.ShloMosaic Idealize.ShloMosaic.TcCoe Idealize.SL.Sem
open Cert.KernelIdeal Cert.KernelIdeal.Gen

/-- The place of neighbour `k` of point `p` in the flat list. -/
def flat (p : Fin 20000) (k : Fin 27) : Fin 540000 := ⟨p.1 * 27 + k.1, by have := p.2; have := k.2; omega⟩

theorem cast_rows (T : FVec Ideal S540000x132 .f32) (p : Fin 20000) (k : Fin 27) (j : Fin 132) :
    shapeCast S20000x27x132 T shapeCasts_S540000x132_S20000x27x132 (ix3 p k j) = T (ix2 (flat p k) j) := by
  pointwise
  rfl

theorem cast_flat (X : IVec S20000x27 32) (p : Fin 20000) (k : Fin 27) :
    broadcastInDim S540000x1 ![0] bcast_S540000_S540000x1_0 (shapeCast S540000 X shapeCasts_S20000x27_S540000) (ix2 (flat p k) 0) = X (ix2 p k) := by
  pointwise
  have hk := k.2
  refine congrArg X (congr (congrArg ix2 (Fin.ext ?_)) (Fin.ext ?_))
  · show (p.1 * 27 + k.1) / 27 = p.1
    omega
  · show (p.1 * 27 + k.1) % 27 = k.1
    omega

theorem keys_of (T : FVec Ideal S20000x27x132 .f32) (p : Fin 20000) (k : Fin 27) (d : Fin 64) :
    extractStridedSlice S20000x27x64 ![0, 0, 0] T slices_S20000x27x132_S20000x27x64_0_0_0 (ix3 p k d) = T (ix3 p k ⟨d.1, by omega⟩) := by
  pointwise
  blk_ext

theorem values_of (T : FVec Ideal S20000x27x132 .f32) (p : Fin 20000) (k : Fin 27) (d : Fin 64) :
    extractStridedSlice S20000x27x64 ![0, 0, 64] T slices_S20000x27x132_S20000x27x64_0_0_64 (ix3 p k d) = T (ix3 p k ⟨64 + d.1, by omega⟩) := by
  pointwise
  blk_ext

theorem coords_of (T : FVec Ideal S20000x27x132 .f32) (p : Fin 20000) (k : Fin 27) (j : Fin 3) :
    extractStridedSlice S20000x27x3 ![0, 0, 128] T slices_S20000x27x132_S20000x27x3_0_0_128 (ix3 p k j) = T (ix3 p k ⟨128 + j.1, by omega⟩) := by
  pointwise
  blk_ext

/-- The table: the keys' rows, the values' rows, the coordinates and a column of zeros. -/
abbrev tbl (K V : FVec Ideal S20000x64 .f32) (C : IVec S20000x3 32) : FVec Ideal S20000x132 .f32 :=
  concatenate S20000x132 1 [⟨S20000x64, K⟩, ⟨S20000x64, V⟩, ⟨S20000x3, sitofp (F := Ideal) .f32 C⟩,
    ⟨S20000x1, broadcastInDim S20000x1 ![] bcast_S_S20000x1 (constant S_ .f32 0x00000000#32)⟩] concatenates_S20000x64_S20000x64_S20000x3_S20000x1_S20000x132_d1

theorem tbl_key (K V : FVec Ideal S20000x64 .f32) (C : IVec S20000x3 32) (p : Fin 20000) (d : Fin 64) :
    tbl K V C (ix2 p ⟨d.1, by omega⟩) = K (ix2 p d) := by
  pointwise

theorem tbl_value (K V : FVec Ideal S20000x64 .f32) (C : IVec S20000x3 32) (p : Fin 20000) (d : Fin 64) :
    tbl K V C (ix2 p ⟨64 + d.1, by omega⟩) = V (ix2 p d) := by
  pointwise

theorem tbl_coord (K V : FVec Ideal S20000x64 .f32) (C : IVec S20000x3 32) (p : Fin 20000) (j : Fin 3) :
    tbl K V C (ix2 p ⟨128 + j.1, by omega⟩) = (((C (ix2 p j)).toInt : ℝ) : EReal) := by
  pointwise
  have hj := j.2
  rw [dif_neg (by omega), dif_neg (by omega), dif_pos (by omega)]
  refine congrArg (fun q => (((C (ix2 p q)).toInt : ℝ) : EReal)) (Fin.ext ?_)
  show 128 + j.1 - 64 - 64 = j.1
  omega

/-- How rows of the table are taken. -/
abbrev rows : GatherDims S20000x132 S540000x1 S540000x132 := gather_S20000x132_S540000x1_S540000x132_1_0_n_n_0_1_1132

/-- Rows of the table at a flat list of row numbers. -/
theorem take_flat (T : FVec Ideal S20000x132 .f32) (X : IVec S540000x1 32) (n : Fin 540000) (j : Fin 132) (q : Fin 20000)
    (h : (X (ix2 n 0)).toInt = q.1) :
    Host.gather gather_S20000x132_S540000x1_S540000x132_1_0_n_n_0_1_1132 T X (ix2 n j) = T (ix2 q j) := by
  unfold Host.gather
  refine congrArg T (funext fun a => Fin.ext ?_)
  show rows.start (ix2 n j) X a + rows.batchCoord (ix2 n j) a + rows.offCoord (ix2 n j) a = _
  rw [GatherDims.batchCoord_eq_zero _ _ _ List.not_mem_nil, Nat.add_zero]
  match a with
  | ⟨0, h0⟩ =>
    have hs : rows.siIdx (ix2 n j) ⟨0, Nat.one_pos⟩ = ix2 n 0 := by
      funext b
      refine Fin.ext ?_
      match b with
      | ⟨0, _⟩ => rfl
      | ⟨1, _⟩ => rfl
    have ho : rows.offCoord (ix2 n j) ⟨0, h0⟩ = 0 :=
      GatherDims.offCoord_eq_zero _ _ _ fun h => ((GatherDims.mem_sKept _ _).mp h).1 (List.mem_singleton.mpr rfl)
    have hst : rows.start (ix2 n j) X ⟨0, h0⟩ = min (X (rows.siIdx (ix2 n j) ⟨0, Nat.one_pos⟩)).toInt.toNat (20000 - 1) := by
      unfold GatherDims.start
      rw [dif_pos (show (⟨0, h0⟩ : Fin 2) ∈ rows.startIndexMap from List.mem_singleton.mpr rfl)]
      rfl
    rw [ho, hst, hs, h]
    show min q.1 (20000 - 1) + 0 = q.1
    have := q.2
    omega
  | ⟨1, h1⟩ =>
    have hst : rows.start (ix2 n j) X ⟨1, h1⟩ = 0 := by
      unfold GatherDims.start
      rw [dif_neg (show ¬ (⟨1, h1⟩ : Fin 2) ∈ rows.startIndexMap from by
        intro h; exact absurd (congrArg Fin.val (List.mem_singleton.mp h)) Nat.one_ne_zero)]
    rw [hst, Nat.zero_add]
    rfl

/-- A word keeps its value through the floats. -/
theorem back (x : BitVec 32) : Ideal.fptosi 32 (((x.toInt : ℝ) : EReal)) = x := by
  have h0 := BitVec.le_toInt x
  have h1 := BitVec.toInt_lt (x := x)
  have e : (if (0 : ℝ) ≤ (x.toInt : ℝ) then ⌊(x.toInt : ℝ)⌋ else ⌈(x.toInt : ℝ)⌉) = x.toInt := by
    rw [Int.floor_intCast, Int.ceil_intCast, ite_self]
  rw [Ideal.fptosi, Ideal.toIntClamped_coe, e, min_eq_right (by norm_num at h1 ⊢; omega), max_eq_right (by norm_num at h0 ⊢; omega), BitVec.ofInt_toInt]

end Cert.Table
-- ==== Proof.Parts.lean ====
module

public import proofs.«01_k».proof.Proof.Table

/-! # What the last host operations leave

Each stretch of operations in turn, over the buffers before it. -/

set_option maxRecDepth 16384

@[expose] public section

noncomputable section

namespace Cert.Parts

open Idealize.ShloMosaic Idealize.ShloMosaic.TcCoe Idealize.SL.Sem
open Cert.KernelIdeal Cert.KernelIdeal.Gen
open Cert.Table (tbl)

/-- The differences of coordinates, each with one added, cut to the range from 0 to 2. -/
abbrev clip (R : IVec S20000x27x3 32) : IVec S20000x27x3 32 :=
  minsi (broadcastInDim S20000x27x3 ![] bcast_S_S20000x27x3 (constantI S_ 32 2#32))
    (maxsi (broadcastInDim S20000x27x3 ![] bcast_S_S20000x27x3 (constantI S_ 32 0#32)) R)

/-- The number of the position among the 27, from three digits. -/
abbrev digits (R : IVec S20000x27x3 32) : IVec S20000x27 32 :=
  addi (addi (muli (shapeCast S20000x27 (extractStridedSlice S20000x27x1 ![0, 0, 0] R slices_S20000x27x3_S20000x27x1_0_0_0) shapeCasts_S20000x27x1_S20000x27) (broadcastInDim S20000x27 ![] bcast_S_S20000x27 (constantI S_ 32 9#32)))
    (muli (shapeCast S20000x27 (extractStridedSlice S20000x27x1 ![0, 0, 1] R slices_S20000x27x3_S20000x27x1_0_0_1) shapeCasts_S20000x27x1_S20000x27) (broadcastInDim S20000x27 ![] bcast_S_S20000x27 (constantI S_ 32 3#32))))
    (shapeCast S20000x27 (extractStridedSlice S20000x27x1 ![0, 0, 2] R slices_S20000x27x3_S20000x27x1_0_0_2) shapeCasts_S20000x27x1_S20000x27)

/-- The differences of the coordinates taken from the table and the points' own. -/
abbrev diffs (T : FVec Ideal S20000x27x132 .f32) (C : IVec S20000x3 32) : IVec S20000x27x3 32 :=
  subi (fptosi 32 (extractStridedSlice S20000x27x3 ![0, 0, 128] T slices_S20000x27x132_S20000x27x3_0_0_128))
    (broadcastInDim S20000x27x3 ![0, 1, 2] bcast_S20000x1x3_S20000x27x3_0_1_2 (broadcastInDim S20000x1x3 ![0, 2] bcast_S20000x3_S20000x1x3_0_2 C))

/-- The logits' exponentials. -/
abbrev exps (L : FVec Ideal S20000x27 .f32) : FVec Ideal S20000x27 .f32 :=
  Host.exp (subf L (broadcastInDim S20000x27 ![0, 1] bcast_S20000x1_S20000x27_0_1 (broadcastInDim S20000x1 ![0] bcast_S20000_S20000x1_0
    (maximumf (broadcastInDim S20000 ![] bcast_S_S20000 (constant S_ .f32 0xFF800000#32))
      (Host.reduce FloatOps.maximumf L (constant S_ .f32 0xFF800000#32) reducesTo_S20000x27_S20000_d1 h_S_)))))

/-- The weights from the exponentials. -/
abbrev shares (E : FVec Ideal S20000x27 .f32) : FVec Ideal S20000x27 .f32 :=
  Host.divf E (broadcastInDim S20000x27 ![0, 1] bcast_S20000x1_S20000x27_0_1 (broadcastInDim S20000x1 ![0] bcast_S20000_S20000x1_0
    (Host.reduceAdd E (constant S_ .f32 0x00000000#32) reducesTo_S20000x27_S20000_d1 h_S_)))

/-- The weighted values and the point's own. -/
abbrev mixed (A : FVec Ideal S20000x27 .f32) (T : FVec Ideal S20000x27x64 .f32) (U : FVec Ideal S20000x64 .f32) : FVec Ideal S20000x64 .f32 :=
  addf (Host.dotGeneral dot_S20000x27_S20000x27x64_S20000x64_1_1_n_2_0_0 none A T) U

/-- The refined features. -/
abbrev refined (X : FVec Ideal S20000x64 .f32) (W : FVec Ideal S64x64 .f32) (b : FVec Ideal S64 .f32) : FVec Ideal S20000x64 .f32 :=
  addf (Host.dotGeneral dot_S20000x64_S64x64_S20000x64_1_0_0_1_n_n none X W)
    (broadcastInDim S20000x64 ![0, 1] bcast_S1x64_S20000x64_0_1 (broadcastInDim S1x64 ![1] bcast_S64_S1x64_1 b))

/-- The class logits. -/
abbrev classes (X : FVec Ideal S20000x64 .f32) (W : FVec Ideal S64x13 .f32) (b : FVec Ideal S13 .f32) : FVec Ideal S20000x13 .f32 :=
  addf (Host.dotGeneral dot_S20000x64_S64x13_S20000x13_1_0_0_1_n_n none X W)
    (broadcastInDim S20000x13 ![0, 1] bcast_S1x13_S20000x13_0_1 (broadcastInDim S1x13 ![1] bcast_S13_S1x13_1 b))

/-- The logits before the far neighbours' are replaced. -/
abbrev scores (Q : FVec Ideal S20000x64 .f32) (K : FVec Ideal S20000x27x64 .f32) (O : FVec Ideal S20000x27x27 .f32) (P : FVec Ideal S20000x27 .f32) :
    FVec Ideal S20000x27 .f32 :=
  Host.divf (addf (Host.dotGeneral dot_S20000x64_S20000x27x64_S20000x27_1_2_n_1_0_0 none Q K) (Host.dotGeneral dot_S20000x27x27_S20000x27_S20000x27_2_1_1_n_0_0 none O P))
    (broadcastInDim S20000x27 ![] bcast_S_S20000x27 (constant S_ .f32 0x41000000#32))

/-- One at the position's number, zero elsewhere. -/
abbrev hots (X : IVec S20000x27 32) : FVec Ideal S20000x27x27 .f32 :=
  uitofp (F := Ideal) .f32 (cmpi .eq (broadcastInDim S20000x27x27 ![0, 1, 2] bcast_S20000x27x1_S20000x27x27_0_1_2 (broadcastInDim S20000x27x1 ![0, 1] bcast_S20000x27_S20000x27x1_0_1 X))
    (broadcastInDim S20000x27x27 ![0, 1, 2] bcast_S1x1x27_S20000x27x27_0_1_2 (iotaInDim S1x1x27 32 2)))

/-- Queries times the positions' rows. -/
abbrev places (Q : FVec Ideal S20000x64 .f32) (E : FVec Ideal S27x64 .f32) : FVec Ideal S20000x27 .f32 :=
  Host.dotGeneral dot_S20000x64_S64x27_S20000x27_1_0_0_1_n_n none Q (transpose S64x27 [1, 0] E transposes_S27x64_S64x27_1_0)

section
variable (V : Valuation τ sig (Elt Ideal))

theorem p1_coords : StableHlo.after (hostOps1 (F := Ideal)) V (Proc.devRef .tc main_v4)
    = extractStridedSlice S20000x3 ![0, 1] (V (Proc.devRef .tc main_arg0)) slices_S20000x4_S20000x3_0_1 := by
  after_results

theorem p2_table : StableHlo.after (hostOps2 (F := Ideal)) V (Proc.devRef .tc main_v24)
    = tbl (V (Proc.devRef .tc main_v3_3)) (V (Proc.devRef .tc main_v3_4)) (V (Proc.devRef .tc main_v4)) := by
  after_results
  rfl

theorem p2_list : StableHlo.after (hostOps2 (F := Ideal)) V (Proc.devRef .tc main_v25)
    = shapeCast S540000 (StableHlo.after (hostOps2 (F := Ideal)) V (Proc.devRef .tc main_v17)) shapeCasts_S20000x27_S540000 := by
  after_results
  rfl

theorem p3_taken : StableHlo.after (hostOps2_1 (F := Ideal)) V (Proc.devRef .tc main_v26)
    = Host.gather gather_S20000x132_S540000x1_S540000x132_1_0_n_n_0_1_1132 (V (Proc.devRef .tc main_v24))
        (broadcastInDim S540000x1 ![0] bcast_S540000_S540000x1_0 (V (Proc.devRef .tc main_v25))) := by
  after_results
  rfl

theorem p4_keys : StableHlo.after (hostOps2_2 (F := Ideal)) V (Proc.devRef .tc main_v28)
    = extractStridedSlice S20000x27x64 ![0, 0, 0] (shapeCast S20000x27x132 (V (Proc.devRef .tc main_v26)) shapeCasts_S540000x132_S20000x27x132) slices_S20000x27x132_S20000x27x64_0_0_0 := by
  after_results
  rfl

theorem p4_values : StableHlo.after (hostOps2_2 (F := Ideal)) V (Proc.devRef .tc main_v29)
    = extractStridedSlice S20000x27x64 ![0, 0, 64] (shapeCast S20000x27x132 (V (Proc.devRef .tc main_v26)) shapeCasts_S540000x132_S20000x27x132) slices_S20000x27x132_S20000x27x64_0_0_64 := by
  after_results
  rfl

theorem p4_diffs : StableHlo.after (hostOps2_2 (F := Ideal)) V (Proc.devRef .tc main_v36)
    = addi (diffs (shapeCast S20000x27x132 (V (Proc.devRef .tc main_v26)) shapeCasts_S540000x132_S20000x27x132) (V (Proc.devRef .tc main_v4)))
        (broadcastInDim S20000x27x3 ![] bcast_S_S20000x27x3 (constantI S_ 32 1#32)) := by
  after_results
  rfl

theorem p4_low : StableHlo.after (hostOps2_2 (F := Ideal)) V (Proc.devRef .tc main_c_6) = constantI S_ 32 0#32 := by
  after_results

theorem p4_high : StableHlo.after (hostOps2_2 (F := Ideal)) V (Proc.devRef .tc main_c_7) = constantI S_ 32 2#32 := by
  after_results

theorem p5_clip (h6 : V (Proc.devRef .tc main_c_6) = constantI S_ 32 0#32) (h7 : V (Proc.devRef .tc main_c_7) = constantI S_ 32 2#32) :
    StableHlo.after (hostOps2_3 (F := Ideal)) V (Proc.devRef .tc main_v37) = clip (V (Proc.devRef .tc main_v36)) := by
  after_results
  rw [h6, h7]
  rfl

theorem p6_digits : StableHlo.after (hostOps2_4 (F := Ideal)) V (Proc.devRef .tc main_v49) = digits (V (Proc.devRef .tc main_v37)) := by
  after_results
  rfl

theorem p6_pos : StableHlo.after (hostOps2_4 (F := Ideal)) V (Proc.devRef .tc main_v51)
    = places (V (Proc.devRef .tc main_v3_2)) (V (Proc.devRef .tc main_arg11)) := by
  after_results

theorem p7_hots : StableHlo.after (hostOps2_5 (F := Ideal)) V (Proc.devRef .tc main_v52) = hots (V (Proc.devRef .tc main_v49)) := by
  after_results
  rfl

theorem p8_scores : StableHlo.after (hostOps2_6 (F := Ideal)) V (Proc.devRef .tc main_v57)
    = scores (V (Proc.devRef .tc main_v3_2)) (V (Proc.devRef .tc main_v28)) (V (Proc.devRef .tc main_v52)) (V (Proc.devRef .tc main_v51)) := by
  after_results

theorem p8_far : StableHlo.after (hostOps2_6 (F := Ideal)) V (Proc.devRef .tc main_cst_11) = constant (F := Ideal) S_ .f32 0xC61C4000#32 := by
  after_results

theorem p9_where (h : V (Proc.devRef .tc main_cst_11) = constant (F := Ideal) S_ .f32 0xC61C4000#32) :
    StableHlo.after (hostOps2_7 (F := Ideal)) V (Proc.devRef .tc main_v58)
      = select (V (Proc.devRef .tc main_v21)) (V (Proc.devRef .tc main_v57)) (broadcastInDim S20000x27 ![] bcast_S_S20000x27 (id (constant (F := Ideal) S_ .f32 0xC61C4000#32))) := by
  after_results
  rw [h]
  rfl

theorem p10_shares : StableHlo.after (hostOps2_8 (F := Ideal)) V (Proc.devRef .tc main_v80)
    = broadcastInDim S20000x1x27 ![0, 2] bcast_S20000x27_S20000x1x27_0_2 (shares (exps (V (Proc.devRef .tc main_v58)))) := by
  after_results

theorem p10_refined : StableHlo.after (hostOps2_8 (F := Ideal)) V (Proc.devRef .tc main_v75)
    = refined (mixed (shares (exps (V (Proc.devRef .tc main_v58)))) (V (Proc.devRef .tc main_v29)) (V (Proc.devRef .tc main_v3_4)))
        (V (Proc.devRef .tc main_arg12)) (V (Proc.devRef .tc main_arg13)) := by
  after_results

theorem p10_classes : StableHlo.after (hostOps2_8 (F := Ideal)) V (Proc.devRef .tc main_v79)
    = classes (StableHlo.after (hostOps2_8 (F := Ideal)) V (Proc.devRef .tc main_v75)) (V (Proc.devRef .tc main_arg14)) (V (Proc.devRef .tc main_arg15)) := by
  after_results

end

end Cert.Parts
-- ==== Proof.Spec.lean ====
module

public import proofs.«01_k».proof.Proof.Soft
public import proofs.«01_k».proof.Proof.Parts
public import proofs.«01_k».proof.Proof.Wins

/-! # The attention, as both programs compute it -/

set_option maxRecDepth 16384

@[expose] public section

noncomputable section

namespace Cert.Spec

open Idealize.ShloMosaic Idealize.ShloMosaic.TcCoe
open Cert.KernelIdeal Cert.KernelIdeal.Gen
open Cert.Knn (nb maskArr)
open Cert.Bdy (proj)
open Cert.Soft (soft)
open Cert.Parts (clip digits)

/-! ## The number of a neighbour's position -/

/-- The differences of a neighbour's coordinates and the point's. -/
def near (A : IVec S20000x4 32) : IVec S20000x27x3 32 :=
  fun i => A (ix2 (nb A (i 0) (i 1)) (i 2).succ) - A (ix2 (i 0) (i 2).succ)

/-- The numbers of the neighbours' positions. -/
def num (A : IVec S20000x4 32) : IVec S20000x27 32 :=
  digits (clip (addi (near A) (broadcastInDim S20000x27x3 ![] bcast_S_S20000x27x3 (constantI S_ 32 1#32))))

theorem digits_at (R : IVec S20000x27x3 32) (p : Fin 20000) (k : Fin 27) :
    digits R (ix2 p k) = R (ix3 p k 0) * 9#32 + R (ix3 p k 1) * 3#32 + R (ix3 p k 2) := by
  pointwise
  rfl

theorem clip_at (R : IVec S20000x27x3 32) (i : S20000x27x3.Idx) : clip R i = IntOp.minsi 2#32 (IntOp.maxsi 0#32 (R i)) := rfl

/-- A word cut to the range from 0 to 2 is one of the three. -/
theorem cut (x : BitVec 32) : IntOp.minsi 2#32 (IntOp.maxsi 0#32 x) = 0#32 ∨ IntOp.minsi 2#32 (IntOp.maxsi 0#32 x) = 1#32
    ∨ IntOp.minsi 2#32 (IntOp.maxsi 0#32 x) = 2#32 := by
  have h0 : (0#32 : BitVec 32).toInt = 0 := by decide
  have h2 : (2#32 : BitVec 32).toInt = 2 := by decide
  unfold IntOp.minsi IntOp.maxsi
  simp only [BitVec.slt_eq_decide, BitVec.sle_eq_decide]
  have key : ∀ y : BitVec 32, 0 ≤ y.toInt → y.toInt ≤ 2 → y = 0#32 ∨ y = 1#32 ∨ y = 2#32 := by
    intro y a b
    have : y.toInt = 0 ∨ y.toInt = 1 ∨ y.toInt = 2 := by omega
    rcases this with e | e | e
    · exact .inl (BitVec.eq_of_toInt_eq (by rw [e]; decide))
    · exact .inr (.inl (BitVec.eq_of_toInt_eq (by rw [e]; decide)))
    · exact .inr (.inr (BitVec.eq_of_toInt_eq (by rw [e]; decide)))
  apply key <;> (repeat' split) <;> simp_all <;> omega

/-- Three digits below 3 make a number below 27. -/
theorem three (a b c : BitVec 32) (ha : a = 0#32 ∨ a = 1#32 ∨ a = 2#32) (hb : b = 0#32 ∨ b = 1#32 ∨ b = 2#32) (hc : c = 0#32 ∨ c = 1#32 ∨ c = 2#32) :
    (a * 9#32 + b * 3#32 + c).toNat < 27 := by
  rcases ha with rfl | rfl | rfl <;> rcases hb with rfl | rfl | rfl <;> rcases hc with rfl | rfl | rfl <;> decide

theorem num_lt (A : IVec S20000x4 32) (p : Fin 20000) (k : Fin 27) : (num A (ix2 p k)).toNat < 27 := by
  unfold num
  rw [digits_at, clip_at, clip_at, clip_at]
  exact three _ _ _ (cut _) (cut _) (cut _)

/-- The position of a neighbour among the 27. -/
def place (A : IVec S20000x4 32) (p : Fin 20000) (k : Fin 27) : Fin 27 := ⟨(num A (ix2 p k)).toNat, num_lt A p k⟩

theorem num_eq (A : IVec S20000x4 32) (p : Fin 20000) (k : Fin 27) : num A (ix2 p k) = BitVec.ofNat 32 (place A p k).1 := by
  apply BitVec.eq_of_toNat_eq
  rw [BitVec.toNat_ofNat, Nat.mod_eq_of_lt (by have := (place A p k).2; omega)]
  rfl

/-! ## The attention -/

section
variable (A : IVec S20000x4 32) (f : Fin 20000 → Fin 64 → EReal) (s : Fin 20000 → Fin 32 → EReal) (wq wk : FVec Ideal S64x64 .f32)
  (wv : FVec Ideal S32x64 .f32) (e : FVec Ideal S27x64 .f32)

/-- The logit of a neighbour. -/
def logit (p : Fin 20000) (k : Fin 27) : EReal :=
  if maskArr A (ix2 p k) = 1#1 then
    Ideal.div (∑ d, proj f wq (ix2 p d) * (proj f wk (ix2 (nb A p k) d) + e (ix2 (place A p k) d))) (Ideal.ofBits .f32 0x41000000#32)
  else Ideal.ofBits .f32 0xC61C4000#32

/-- The weights of the neighbours. -/
def weights : FVec Ideal S20000x1x27 .f32 := fun i => soft (logit A f wq wk e (i 0)) (i 2)

/-- The weighted values and the point's own. -/
def mix : FVec Ideal S20000x64 .f32 :=
  fun i => (∑ k, soft (logit A f wq wk e (i 0)) k * proj s wv (ix2 (nb A (i 0) k) (i 1))) + proj s wv (ix2 (i 0) (i 1))

end

/-- Arrays of rows that agree at every place are the same. -/
theorem rows_ext (x y : FVec Ideal S20000x64 .f32) (h : ∀ (p : Fin 20000) (d : Fin 64), x (ix2 p d) = y (ix2 p d)) : x = y := by
  funext i
  have hi : i = ix2 (i 0 : Fin 20000) (i 1 : Fin 64) := by blk_ext
  exact (congrArg x hi).trans ((h (i 0) (i 1)).trans (congrArg y hi.symm))

theorem weights_ext (x y : FVec Ideal S20000x1x27 .f32) (h : ∀ (p : Fin 20000) (k : Fin 27), x (ix3 p 0 k) = y (ix3 p 0 k)) : x = y := by
  funext i
  have hi : i = ix3 (i 0 : Fin 20000) (0 : Fin 1) (i 2 : Fin 27) := by blk_ext
  exact (congrArg x hi).trans ((h (i 0) (i 2)).trans (congrArg y hi.symm))

theorem diffs_ext (x y : IVec S20000x27x3 32) (h : ∀ (p : Fin 20000) (k : Fin 27) (j : Fin 3), x (ix3 p k j) = y (ix3 p k j)) : x = y := by
  funext i
  have hi : i = ix3 (i 0 : Fin 20000) (i 1 : Fin 27) (i 2 : Fin 3) := by blk_ext
  exact (congrArg x hi).trans ((h (i 0) (i 1) (i 2)).trans (congrArg y hi.symm))

end Cert.Spec
-- ==== Proof.KAtt.lean ====
module

public import proofs.«01_k».proof.Proof.Spec
public import proofs.«01_k».proof.Proof.Real

/-! # The program's attention -/

set_option maxRecDepth 16384

@[expose] public section

noncomputable section

namespace Cert.Att

open Idealize.ShloMosaic Idealize.ShloMosaic.TcCoe Idealize.SL.Sem
open Cert.KernelIdeal Cert.KernelIdeal.Gen
open Cert.Knn (nb nbArr maskArr Small)
open Cert.Bdy (proj mfeat)
open Cert.Soft (soft)
open Cert.Spec Cert.Parts
open Cert.Table (tbl flat)
open Cert.Run (outs)

variable (m : (l : Loc nD τ sig) → Buf (Elt Ideal) l) (c : Dev nD)

/-! ## The arguments, and what the regions left -/

abbrev A : IVec S20000x4 32 := m ((c : Thread nD τ).loc main_arg0)
abbrev sem : Fin 20000 → Fin 32 → EReal := fun p j => m ((c : Thread nD τ).loc main_arg2) (ix2 p j)
abbrev Wq : FVec Ideal S64x64 .f32 := m ((c : Thread nD τ).loc main_arg8)
abbrev Wk : FVec Ideal S64x64 .f32 := m ((c : Thread nD τ).loc main_arg9)
abbrev Wv : FVec Ideal S32x64 .f32 := m ((c : Thread nD τ).loc main_arg10)
abbrev E : FVec Ideal S27x64 .f32 := m ((c : Thread nD τ).loc main_arg11)
abbrev C : IVec S20000x3 32 := extractStridedSlice S20000x3 ![0, 1] (A m c) slices_S20000x4_S20000x3_0_1

theorem to4 (r : Ref sig .tc) (h4 : r ∉ hostOps1_W) (h : V4 m (outs m) c r = V3 m (outs m) c r) : V4 m (outs m) c r = V2 m (outs m) c r :=
  h.trans (V3_of m _ c r h4)

theorem keys4 : V4 m (outs m) c main_v3_3 = proj (mfeat m c) (Wk m c) :=
  (to4 m c main_v3_3 (by decide) (V4_of m _ c main_v3_3 (by decide))).trans (Cert.Bdy.key_run m c)

theorem values4 : V4 m (outs m) c main_v3_4 = proj (sem m c) (Wv m c) :=
  (to4 m c main_v3_4 (by decide) (V4_of m _ c main_v3_4 (by decide))).trans (Cert.Bdy.value_run m c)

theorem queries4 : V4 m (outs m) c main_v3_2 = proj (mfeat m c) (Wq m c) :=
  (to4 m c main_v3_2 (by decide) (V4_of m _ c main_v3_2 (by decide))).trans (Cert.Bdy.query_run m c)

theorem coords4 : V4 m (outs m) c main_v4 = C m c := by
  refine (V4_of m _ c main_v4 (by decide)).trans ((p1_coords (V2 m (outs m) c)).trans ?_)
  exact congrArg (fun X : IVec S20000x4 32 => extractStridedSlice S20000x3 ![0, 1] X slices_S20000x4_S20000x3_0_1)
    ((V2_of m _ c main_arg0 (by decide)).trans (V1_of m c main_arg0 (by decide)))

theorem coord_at (X : IVec S20000x4 32) (p : Fin 20000) (j : Fin 3) :
    extractStridedSlice S20000x3 ![0, 1] X slices_S20000x4_S20000x3_0_1 (ix2 p j) = X (ix2 p j.succ) := by
  pointwise
  blk_ext
  simp [Nat.add_comm]

/-! ## The rows taken from the table -/

theorem tbl_congr {K K' V V' : FVec Ideal S20000x64 .f32} {D D' : IVec S20000x3 32} (h : K = K') (h' : V = V') (h'' : D = D') : tbl K V D = tbl K' V' D' := by
  subst h h' h''
  rfl

theorem table5 : V5 m (outs m) c main_v24 = tbl (proj (mfeat m c) (Wk m c)) (proj (sem m c) (Wv m c)) (C m c) :=
  (p2_table (V4 m (outs m) c)).trans (tbl_congr (keys4 m c) (values4 m c) (coords4 m c))

theorem idx5 (hA : Small (A m c)) : V5 m (outs m) c main_v17 = nbArr (A m c) :=
  ((V13_of m _ c main_v17 (by decide)).trans <| (V12_of m _ c main_v17 (by decide)).trans <|
    (V11_of m _ c main_v17 (by decide)).trans <| (V10_of m _ c main_v17 (by decide)).trans <|
    (V9_of m _ c main_v17 (by decide)).trans <| (V8_of m _ c main_v17 (by decide)).trans <|
    (V7_of m _ c main_v17 (by decide)).trans <| V6_of m _ c main_v17 (by decide)).symm.trans (Cert.Knn.idx_of_run m c hA)

theorem mask11 (hA : Small (A m c)) : V11 m (outs m) c main_v21 = maskArr (A m c) :=
  ((V13_of m _ c main_v21 (by decide)).trans <| V12_of m _ c main_v21 (by decide)).symm.trans (Cert.Knn.mask_of_run m c hA)

theorem list5 (hA : Small (A m c)) : V5 m (outs m) c main_v25 = shapeCast S540000 (nbArr (A m c)) shapeCasts_S20000x27_S540000 :=
  (p2_list (V4 m (outs m) c)).trans (congrArg (fun X : IVec S20000x27 32 => shapeCast S540000 X shapeCasts_S20000x27_S540000) (idx5 m c hA))

theorem word (q : Fin 20000) : (BitVec.ofNat 32 q.1).toInt = q.1 := by
  have := q.2
  rw [BitVec.toInt_eq_toNat_of_lt (by rw [BitVec.toNat_ofNat]; omega), BitVec.toNat_ofNat]
  omega

/-- The rows taken, in their three-axis form. -/
abbrev T6 : FVec Ideal S20000x27x132 .f32 := shapeCast S20000x27x132 (V6 m (outs m) c main_v26 : FVec Ideal S540000x132 .f32) shapeCasts_S540000x132_S20000x27x132

theorem gather_congr {T T' : FVec Ideal S20000x132 .f32} {X X' : IVec S540000 32} (h : T = T') (h' : X = X') :
    Host.gather gather_S20000x132_S540000x1_S540000x132_1_0_n_n_0_1_1132 T (broadcastInDim S540000x1 ![0] bcast_S540000_S540000x1_0 X)
      = Host.gather gather_S20000x132_S540000x1_S540000x132_1_0_n_n_0_1_1132 T' (broadcastInDim S540000x1 ![0] bcast_S540000_S540000x1_0 X') := by
  subst h h'
  rfl

theorem taken (hA : Small (A m c)) (p : Fin 20000) (k : Fin 27) (j : Fin 132) :
    T6 m c (ix3 p k j) = tbl (proj (mfeat m c) (Wk m c)) (proj (sem m c) (Wv m c)) (C m c) (ix2 (nb (A m c) p k) j) := by
  refine (Cert.Table.cast_rows (V6 m (outs m) c main_v26) p k j).trans ?_
  refine (congrFun ((p3_taken (V5 m (outs m) c)).trans (gather_congr (table5 m c) (list5 m c hA))) _).trans ?_
  refine Cert.Table.take_flat _ _ _ _ (nb (A m c) p k) ?_
  rw [Cert.Table.cast_flat]
  exact word _

theorem keys7 (hA : Small (A m c)) (p : Fin 20000) (k : Fin 27) (d : Fin 64) :
    V7 m (outs m) c main_v28 (ix3 p k d) = proj (mfeat m c) (Wk m c) (ix2 (nb (A m c) p k) d) :=
  (congrFun (p4_keys (V6 m (outs m) c)) _).trans ((Cert.Table.keys_of (T6 m c) p k d).trans ((taken m c hA p k _).trans (Cert.Table.tbl_key _ _ _ _ d)))

theorem values7 (hA : Small (A m c)) (p : Fin 20000) (k : Fin 27) (d : Fin 64) :
    V7 m (outs m) c main_v29 (ix3 p k d) = proj (sem m c) (Wv m c) (ix2 (nb (A m c) p k) d) :=
  (congrFun (p4_values (V6 m (outs m) c)) _).trans ((Cert.Table.values_of (T6 m c) p k d).trans ((taken m c hA p k _).trans (Cert.Table.tbl_value _ _ _ _ d)))

/-! ## The positions -/

theorem diffs_at (T : FVec Ideal S20000x27x132 .f32) (D : IVec S20000x3 32) (p : Fin 20000) (k : Fin 27) (j : Fin 3) (x : BitVec 32)
    (h : T (ix3 p k ⟨128 + j.1, by omega⟩) = ((x.toInt : ℝ) : EReal)) : diffs T D (ix3 p k j) = x - D (ix2 p j) := by
  have e : (fptosi (F := Ideal) 32 (extractStridedSlice S20000x27x3 ![0, 0, 128] T slices_S20000x27x132_S20000x27x3_0_0_128)) (ix3 p k j) = x :=
    ((congrArg (Ideal.fptosi 32) ((Cert.Table.coords_of T p k j).trans h)).trans (Cert.Table.back x))
  have e' : (broadcastInDim S20000x27x3 ![0, 1, 2] bcast_S20000x1x3_S20000x27x3_0_1_2 (broadcastInDim S20000x1x3 ![0, 2] bcast_S20000x3_S20000x1x3_0_2 D)) (ix3 p k j)
      = D (ix2 p j) := by
    pointwise
    blk_ext
  exact congr (congrArg HSub.hSub e) e'

theorem near7 (hA : Small (A m c)) : diffs (T6 m c) (C m c) = near (A m c) := by
  refine diffs_ext _ _ fun p k j => ?_
  refine (diffs_at _ _ p k j (C m c (ix2 (nb (A m c) p k) j)) ((taken m c hA p k _).trans (Cert.Table.tbl_coord _ _ _ _ j))).trans ?_
  exact congr (congrArg HSub.hSub (coord_at (A m c) _ j)) (coord_at (A m c) _ j)

theorem diffs7 (hA : Small (A m c)) : V7 m (outs m) c main_v36 = addi (near (A m c)) (broadcastInDim S20000x27x3 ![] bcast_S_S20000x27x3 (constantI S_ 32 1#32)) := by
  refine (p4_diffs (V6 m (outs m) c)).trans (congrArg (fun X => addi X (broadcastInDim S20000x27x3 ![] bcast_S_S20000x27x3 (constantI S_ 32 1#32))) ?_)
  refine (congrArg (diffs (T6 m c)) ?_).trans (near7 m c hA)
  exact (V6_of m _ c main_v4 (by decide)).trans ((V5_of m _ c main_v4 (by decide)).trans (coords4 m c))

theorem num9 (hA : Small (A m c)) : V9 m (outs m) c main_v49 = num (A m c) :=
  (p6_digits (V8 m (outs m) c)).trans (congrArg digits ((p5_clip (V7 m (outs m) c) (p4_low _) (p4_high _)).trans (congrArg clip (diffs7 m c hA))))

theorem queries8 : V8 m (outs m) c main_v3_2 = proj (mfeat m c) (Wq m c) :=
  (V8_of m _ c main_v3_2 (by decide)).trans <| (V7_of m _ c main_v3_2 (by decide)).trans <|
    (V6_of m _ c main_v3_2 (by decide)).trans <| (V5_of m _ c main_v3_2 (by decide)).trans (queries4 m c)

theorem queries10 : V10 m (outs m) c main_v3_2 = proj (mfeat m c) (Wq m c) :=
  (V10_of m _ c main_v3_2 (by decide)).trans <| (V9_of m _ c main_v3_2 (by decide)).trans (queries8 m c)

theorem table8 : V8 m (outs m) c main_arg11 = E m c :=
  ((V13_of m _ c main_arg11 (by decide)).trans <| (V12_of m _ c main_arg11 (by decide)).trans <|
    (V11_of m _ c main_arg11 (by decide)).trans <| (V10_of m _ c main_arg11 (by decide)).trans <|
    V9_of m _ c main_arg11 (by decide)).symm.trans (V13_main_arg11 m _ c)

theorem places10 : V10 m (outs m) c main_v51 = places (proj (mfeat m c) (Wq m c)) (E m c) :=
  (V10_of m _ c main_v51 (by decide)).trans ((p6_pos (V8 m (outs m) c)).trans (congr (congrArg places (queries8 m c)) (table8 m c)))

theorem hots10 (hA : Small (A m c)) : V10 m (outs m) c main_v52 = hots (num (A m c)) :=
  (p7_hots (V9 m (outs m) c)).trans (congrArg hots (num9 m c hA))

theorem keys10 (hA : Small (A m c)) (p : Fin 20000) (k : Fin 27) (d : Fin 64) :
    V10 m (outs m) c main_v28 (ix3 p k d) = proj (mfeat m c) (Wk m c) (ix2 (nb (A m c) p k) d) :=
  (congrFun ((V10_of m _ c main_v28 (by decide)).trans <| (V9_of m _ c main_v28 (by decide)).trans (V8_of m _ c main_v28 (by decide))) _).trans (keys7 m c hA p k d)

theorem values12 (hA : Small (A m c)) (p : Fin 20000) (k : Fin 27) (d : Fin 64) :
    V12 m (outs m) c main_v29 (ix3 p k d) = proj (sem m c) (Wv m c) (ix2 (nb (A m c) p k) d) :=
  (congrFun ((V12_of m _ c main_v29 (by decide)).trans <| (V11_of m _ c main_v29 (by decide)).trans <| (V10_of m _ c main_v29 (by decide)).trans <|
    (V9_of m _ c main_v29 (by decide)).trans (V8_of m _ c main_v29 (by decide))) _).trans (values7 m c hA p k d)

theorem own12 : V12 m (outs m) c main_v3_4 = proj (sem m c) (Wv m c) :=
  (V12_of m _ c main_v3_4 (by decide)).trans <| (V11_of m _ c main_v3_4 (by decide)).trans <| (V10_of m _ c main_v3_4 (by decide)).trans <|
    (V9_of m _ c main_v3_4 (by decide)).trans <| (V8_of m _ c main_v3_4 (by decide)).trans <| (V7_of m _ c main_v3_4 (by decide)).trans <|
    (V6_of m _ c main_v3_4 (by decide)).trans <| (V5_of m _ c main_v3_4 (by decide)).trans (values4 m c)

/-! ## The logits -/

/-- Both forms of a logit: the positions' terms summed apart, and added to the keys. -/
theorem score (q a : Fin 64 → EReal) (e : FVec Ideal S27x64 .f32) (s : Fin 27) (w : BitVec 32) (hw : w = BitVec.ofNat 32 s.1)
    (hq : ∀ d, Fine.Fin' (q d)) (he : ∀ j d, Fine.Fin' (e (ix2 j d))) :
    (∑ d, q d * a d) + ∑ j : Fin 27, (if w = BitVec.ofNat 32 j.1 then 1 else 0) * ∑ d, q d * e (ix2 j d) = ∑ d, q d * (a d + e (ix2 s d)) := by
  rw [Fine.apart q a _ hq (he s)]
  refine congrArg _ ((Finset.sum_congr rfl fun j _ => ?_).trans (Fine.pick (fun j => ∑ d, q d * e (ix2 j d)) s))
  have hi : w = BitVec.ofNat 32 j.1 ↔ s = j := by
    rw [hw]
    constructor
    · intro h
      have h' := congrArg BitVec.toNat h
      rw [BitVec.toNat_ofNat, BitVec.toNat_ofNat] at h'
      have := s.2
      have := j.2
      exact Fin.ext (by omega)
    · rintro rfl
      rfl
  simp only [hi]

theorem scores_at (Q : FVec Ideal S20000x64 .f32) (K : FVec Ideal S20000x27x64 .f32) (X : IVec S20000x27 32) (e : FVec Ideal S27x64 .f32)
    (p : Fin 20000) (k : Fin 27) (a : Fin 64 → EReal) (s : Fin 27) (hK : ∀ d, K (ix3 p k d) = a d) (hX : X (ix2 p k) = BitVec.ofNat 32 s.1)
    (hq : ∀ d, Fine.Fin' (Q (ix2 p d))) (he : ∀ j d, Fine.Fin' (e (ix2 j d))) :
    scores Q K (hots X) (places Q e) (ix2 p k) = Ideal.div (∑ d, Q (ix2 p d) * (a d + e (ix2 s d))) (Ideal.ofBits .f32 0x41000000#32) := by
  refine (Cert.Soft.k_logit Q K (hots X) (places Q e) p k).trans (congrArg (fun x => Ideal.div x _) ?_)
  refine Eq.trans (congr (congrArg HAdd.hAdd (Finset.sum_congr rfl fun d _ => by rw [hK d])) (Finset.sum_congr rfl fun j _ => ?_)) (score _ a e s _ hX hq he)
  exact congr (congrArg HMul.hMul (Cert.Soft.k_hot X p k j)) (Cert.Soft.k_pos Q e p j)

theorem scores_congr {Q Q' : FVec Ideal S20000x64 .f32} (K : FVec Ideal S20000x27x64 .f32) {O O' : FVec Ideal S20000x27x27 .f32}
    {P P' : FVec Ideal S20000x27 .f32} (h : Q = Q') (h' : O = O') (h'' : P = P') : scores Q K O P = scores Q' K O' P' := by
  subst h h' h''
  rfl

theorem shares_at (L : FVec Ideal S20000x27 .f32) (l : Fin 27 → EReal) (p : Fin 20000) (k : Fin 27) (h : ∀ k, L (ix2 p k) = l k) :
    shares (exps L) (ix2 p k) = soft l k := by
  have hl : (fun k => L (ix2 p k)) = l := funext h
  refine (Cert.Soft.k_soft (exps L) p k).trans ?_
  unfold soft
  rw [← hl]
  exact congr (congrArg Ideal.div (Cert.Soft.k_ex L p k)) (Finset.sum_congr rfl fun j _ => Cert.Soft.k_ex L p j)

theorem axis_at (X : FVec Ideal S20000x27 .f32) (p : Fin 20000) (k : Fin 27) :
    broadcastInDim S20000x1x27 ![0, 2] bcast_S20000x27_S20000x1x27_0_2 X (ix3 p 0 k) = X (ix2 p k) := by
  pointwise

theorem refined_congr {X X' : FVec Ideal S20000x64 .f32} {W W' : FVec Ideal S64x64 .f32} {b b' : FVec Ideal S64 .f32}
    (h : X = X') (h' : W = W') (h'' : b = b') : refined X W b = refined X' W' b' := by
  subst h h' h''
  rfl

theorem classes_congr {X X' : FVec Ideal S20000x64 .f32} {W W' : FVec Ideal S64x13 .f32} {b b' : FVec Ideal S13 .f32}
    (h : X = X') (h' : W = W') (h'' : b = b') : classes X W b = classes X' W' b' := by
  subst h h' h''
  rfl

variable (hA : Small (A m c)) (hq : ∀ p d, Fine.Fin' (proj (mfeat m c) (Wq m c) (ix2 p d))) (he : ∀ j d, Fine.Fin' (E m c (ix2 j d)))
include hA hq he

theorem logit12 (p : Fin 20000) (k : Fin 27) : V12 m (outs m) c main_v58 (ix2 p k) = logit (A m c) (mfeat m c) (Wq m c) (Wk m c) (E m c) p k := by
  refine (congrFun (p9_where (V11 m (outs m) c) (p8_far _)) _).trans ((Cert.Soft.k_where (V11 m (outs m) c main_v21) (V11 m (outs m) c main_v57) p k).trans ?_)
  have e1 : V11 m (outs m) c main_v57 (ix2 p k) = _ := (congrFun ((p8_scores (V10 m (outs m) c)).trans
    (scores_congr (V10 m (outs m) c main_v28) (queries10 m c) (hots10 m c hA) (places10 m c))) _).trans
    (scores_at _ (V10 m (outs m) c main_v28) (num (A m c)) (E m c) p k _ (place (A m c) p k) (keys10 m c hA p k) (num_eq _ p k) (hq p) he)
  have e2 : V11 m (outs m) c main_v21 (ix2 p k) = maskArr (A m c) (ix2 p k) := congrFun (mask11 m c hA) _
  unfold logit
  rw [← e1, ← e2]

/-- The weights of the neighbours after the run. -/
theorem weights_of_run : V13 m (outs m) c main_v80 = weights (A m c) (mfeat m c) (Wq m c) (Wk m c) (E m c) := by
  refine (p10_shares (V12 m (outs m) c)).trans (weights_ext _ _ fun p k => ?_)
  exact (axis_at _ p k).trans (shares_at _ _ p k (logit12 m c hA hq he p))

theorem mixed12 : mixed (shares (exps (V12 m (outs m) c main_v58))) (V12 m (outs m) c main_v29) (V12 m (outs m) c main_v3_4)
    = mix (A m c) (mfeat m c) (sem m c) (Wq m c) (Wk m c) (Wv m c) (E m c) := by
  refine rows_ext _ _ fun p d => (Cert.Soft.k_mix _ (V12 m (outs m) c main_v29) _ p d).trans ?_
  refine congr (congrArg HAdd.hAdd (Finset.sum_congr rfl fun k _ => ?_)) (congrFun (own12 m c) _)
  exact congr (congrArg HMul.hMul (shares_at _ _ p k (logit12 m c hA hq he p))) (values12 m c hA p k d)

/-- The refined features after the run. -/
theorem refined_of_run : V13 m (outs m) c main_v75 = refined (mix (A m c) (mfeat m c) (sem m c) (Wq m c) (Wk m c) (Wv m c) (E m c))
    (m ((c : Thread nD τ).loc main_arg12)) (m ((c : Thread nD τ).loc main_arg13)) :=
  (p10_refined (V12 m (outs m) c)).trans (refined_congr (mixed12 m c hA hq he)
    ((V13_of m _ c main_arg12 (by decide)).symm.trans (V13_main_arg12 m _ c)) ((V13_of m _ c main_arg13 (by decide)).symm.trans (V13_main_arg13 m _ c)))

/-- The class logits after the run. -/
theorem classes_of_run : V13 m (outs m) c main_v79 = classes (refined (mix (A m c) (mfeat m c) (sem m c) (Wq m c) (Wk m c) (Wv m c) (E m c))
    (m ((c : Thread nD τ).loc main_arg12)) (m ((c : Thread nD τ).loc main_arg13))) (m ((c : Thread nD τ).loc main_arg14)) (m ((c : Thread nD τ).loc main_arg15)) :=
  (p10_classes (V12 m (outs m) c)).trans (classes_congr (refined_of_run m c hA hq he)
    ((V13_of m _ c main_arg14 (by decide)).symm.trans (V13_main_arg14 m _ c)) ((V13_of m _ c main_arg15 (by decide)).symm.trans (V13_main_arg15 m _ c)))

end Cert.Att
-- ==== Proof.RAtt.lean ====
module

public import proofs.«01_k».proof.Proof.KAtt

/-! # The reference's attention -/

set_option maxRecDepth 16384

@[expose] public section

noncomputable section

namespace Cert.RAtt

open Idealize.ShloMosaic Idealize.ShloMosaic.TcCoe Idealize.SL.Sem
open Cert.ReferenceIdeal Cert.ReferenceIdeal.Gen Cert.ReferenceIdeal.Value
open Cert.Knn (nb maskArr Small)
open Cert.Bdy (proj feat lin)
open Cert.Soft (soft)
open Cert.Spec
open Cert.Ref (pts)

variable (V0 : Valuation τ sig (Elt Ideal))

abbrev S : FVec Ideal S20000x32 .f32 := V0 (Proc.devRef .tc main_arg2)
abbrev Wq : FVec Ideal S64x64 .f32 := V0 (Proc.devRef .tc main_arg8)
abbrev Wk : FVec Ideal S64x64 .f32 := V0 (Proc.devRef .tc main_arg9)
abbrev Wv : FVec Ideal S32x64 .f32 := V0 (Proc.devRef .tc main_arg10)
abbrev E : FVec Ideal S27x64 .f32 := V0 (Proc.devRef .tc main_arg11)
abbrev Wo : FVec Ideal S64x64 .f32 := V0 (Proc.devRef .tc main_arg12)
abbrev bo : FVec Ideal S64 .f32 := V0 (Proc.devRef .tc main_arg13)
abbrev f : Fin 20000 → Fin 64 → EReal := feat (Cert.Bdy.X V0) (Cert.Bdy.W V0) (Cert.Bdy.G V0) (Cert.Bdy.B V0)
abbrev sem : Fin 20000 → Fin 32 → EReal := fun p j => S V0 (ix2 p j)

/-- The neighbours' numbers with a last axis of one place, as the reference looks rows up. -/
abbrev I : IVec S20000x27x1 32 :=
  broadcastInDim S20000x27x1 ![0, 1] bcast_S20000x27_S20000x27x1_0_1
    (select (cmpi .slt (res_main_indices V0) (broadcastInDim S20000x27 ![] bcast_S_S20000x27 (constantI S_ 32 0#32)))
      (addi (res_main_indices V0) (broadcastInDim S20000x27 ![] bcast_S_S20000x27 (constantI S_ 32 20000#32))) (res_main_indices V0))

theorem idx_at (h : Small (pts V0)) (p : Fin 20000) (k : Fin 27) : (I V0 (ix3 p k 0)).toInt = (nb (pts V0) p k).1 :=
  (congrArg BitVec.toInt ((Cert.Ref.with_axis _ p k).trans (Cert.Ref.kept (res_main_indices V0) p k _ (Cert.Ref.indices_at V0 h p k)))).trans (Cert.Att.word _)

/-! ## The positions -/

theorem near_int (h : Small (pts V0)) (p : Fin 20000) (k : Fin 27) (j : Fin 3) :
    (near (pts V0) (ix3 p k j)).toInt = Cert.Ref.gap (pts V0) p (nb (pts V0) p k) j := by
  have ha : (pts V0 (ix2 (nb (pts V0) p k) j.succ)).toNat < 64 := h _ j
  have hb : (pts V0 (ix2 p j.succ)).toNat < 64 := h p j
  show (pts V0 (ix2 (nb (pts V0) p k) j.succ) - pts V0 (ix2 p j.succ)).toInt = _
  rw [BitVec.toInt_sub, BitVec.toInt_eq_toNat_of_lt (by omega), BitVec.toInt_eq_toNat_of_lt (by omega)]
  rw [Int.bmod_eq_of_le (by omega) (by omega)]
  rfl

theorem near_eq (h : Small (pts V0)) : res_main_v56 V0 = near (pts V0) :=
  diffs_ext _ _ fun p k j => BitVec.eq_of_toInt_eq ((Cert.Ref.rel_at V0 h p k j).trans (near_int V0 h p k j).symm)

/-- The reference's numbers of positions, over the differences of coordinates. -/
abbrev numOf (R : IVec S20000x27x3 32) : IVec S20000x27 32 :=
  Cert.Parts.digits (Cert.Parts.clip (addi R (broadcastInDim S20000x27x3 ![] bcast_S_S20000x27x3 (constantI S_ 32 1#32))))

theorem num_eq' (h : Small (pts V0)) : res_main_v76 V0 = num (pts V0) := by
  have e : res_main_v76 V0 = numOf (res_main_v56 V0) := by
    unfold res_main_v76 res_main_v64
    rfl
  rw [e, near_eq V0 h]
  rfl

/-- A position's number stays as it is, not being negative. -/
theorem kept (X : IVec S20000x27 32) (p : Fin 20000) (k : Fin 27) (q : Fin 27) (h : X (ix2 p k) = BitVec.ofNat 32 q.1) :
    (broadcastInDim S20000x27x1 ![0, 1] bcast_S20000x27_S20000x27x1_0_1
      (select (cmpi .slt X (broadcastInDim S20000x27 ![] bcast_S_S20000x27 (constantI S_ 32 0#32)))
        (addi X (broadcastInDim S20000x27 ![] bcast_S_S20000x27 (constantI S_ 32 27#32))) X) (ix3 p k 0)).toInt = q.1 := by
  have hq := q.2
  have hi : (BitVec.ofNat 32 q.1).toInt = q.1 := by
    rw [BitVec.toInt_eq_toNat_of_lt (by rw [BitVec.toNat_ofNat]; omega), BitVec.toNat_ofNat]
    omega
  have hn : (X (ix2 p k)).slt 0#32 = false := by
    have h0 : (0#32 : BitVec 32).toInt = 0 := by decide
    rw [h, BitVec.slt_eq_decide, hi, h0]
    exact decide_eq_false (by omega)
  rw [Cert.Ref.with_axis]
  show (Scalar.select (BitVec.ofBool ((X (ix2 p k)).slt 0#32)) _ (X (ix2 p k))).toInt = _
  rw [hn, h]
  exact hi

/-! ## The logits -/

theorem keys_at (Y : FVec Ideal S20000x64 .f32) (J : IVec S20000x27x1 32) (W : FVec Ideal S64x64 .f32) (g : Fin 20000 → Fin 64 → EReal)
    (hY : ∀ p k, Y (ix2 p k) = g p k) (p : Fin 20000) (k : Fin 27) (d : Fin 64) (q : Fin 20000) (hJ : (J (ix3 p k 0)).toInt = q.1) :
    Host.dotGeneral dot_S20000x27x64_S64x64_S20000x27x64_2_0_01_1_n_n none (Host.gather gather_S20000x64_S20000x27x1_S20000x27x64_2_0_n_n_0_2_164 Y J) W (ix3 p k d)
      = proj g W (ix2 q d) := by
  refine (Cert.Soft.r_rows64 _ W p k d).trans ?_
  have e : (fun j => Host.gather gather_S20000x64_S20000x27x1_S20000x27x64_2_0_n_n_0_2_164 Y J (ix3 p k j)) = g q :=
    funext fun j => (Cert.Take.take_at _ Y J p k j q hJ).trans (hY q j)
  rw [e]
  rfl

theorem values_at (Y : FVec Ideal S20000x32 .f32) (J : IVec S20000x27x1 32) (W : FVec Ideal S32x64 .f32)
    (p : Fin 20000) (k : Fin 27) (d : Fin 64) (q : Fin 20000) (hJ : (J (ix3 p k 0)).toInt = q.1) :
    Host.dotGeneral dot_S20000x27x32_S32x64_S20000x27x64_2_0_01_1_n_n none (Host.gather gather_S20000x32_S20000x27x1_S20000x27x32_2_0_n_n_0_2_132 Y J) W (ix3 p k d)
      = proj (fun p j => Y (ix2 p j)) W (ix2 q d) := by
  refine (Cert.Soft.r_rows32 _ W p k d).trans ?_
  have e : (fun j => Host.gather gather_S20000x32_S20000x27x1_S20000x27x32_2_0_n_n_0_2_132 Y J (ix3 p k j)) = fun j => Y (ix2 q j) :=
    funext fun j => Cert.Take.take_at _ Y J p k j q hJ
  rw [e]
  rfl

theorem pos_at (Y : FVec Ideal S27x64 .f32) (J : IVec S20000x27x1 32) (p : Fin 20000) (k : Fin 27) (d : Fin 64) (q : Fin 27)
    (hJ : (J (ix3 p k 0)).toInt = q.1) :
    Host.gather gather_S27x64_S20000x27x1_S20000x27x64_2_0_n_n_0_2_164 Y J (ix3 p k d) = Y (ix2 q d) :=
  Cert.Take.take_at _ Y J p k d q hJ

theorem query_at (Y : FVec Ideal S20000x64 .f32) (W : FVec Ideal S64x64 .f32) (g : Fin 20000 → Fin 64 → EReal)
    (hY : ∀ p k, Y (ix2 p k) = g p k) (p : Fin 20000) (d : Fin 64) :
    Host.dotGeneral dot_S20000x64_S64x64_S20000x64_1_0_0_1_n_n none Y W (ix2 p d) = proj g W (ix2 p d) := by
  refine (Cert.Soft.r_query Y W p d).trans ?_
  rw [show (fun j => Y (ix2 p j)) = g p from funext (hY p)]
  rfl

/-- A logit from the queries, the keys and the positions' rows. -/
theorem score_at (Q : FVec Ideal S20000x64 .f32) (K P : FVec Ideal S20000x27x64 .f32) (p : Fin 20000) (k : Fin 27) (q a b : Fin 64 → EReal)
    (hQ : ∀ d, Q (ix2 p d) = q d) (hK : ∀ d, K (ix3 p k d) = a d) (hP : ∀ d, P (ix3 p k d) = b d) :
    Host.divf (Host.dotGeneral dot_S20000x1x64_S20000x27x64_S20000x1x27_2_2_1_1_0_0 none (broadcastInDim S20000x1x64 ![0, 2] bcast_S20000x64_S20000x1x64_0_2 Q) (addf K P))
      (broadcastInDim S20000x1x27 ![] bcast_S_S20000x1x27 (constant S_ .f32 0x41000000#32)) (ix3 p 0 k)
      = Ideal.div (∑ d, q d * (a d + b d)) (Ideal.ofBits .f32 0x41000000#32) := by
  refine (Cert.Soft.r_logit Q (addf K P) p k).trans (congrArg (fun x => Ideal.div x _) (Finset.sum_congr rfl fun d _ => ?_))
  exact congr (congrArg HMul.hMul (hQ d)) (congr (congrArg HAdd.hAdd (hK d)) (hP d))

theorem logit_at (h : Small (pts V0)) (p : Fin 20000) (k : Fin 27) :
    res_main_v107 V0 (ix3 p 0 k) = logit (pts V0) (f V0) (Wq V0) (Wk V0) (E V0) p k := by
  unfold res_main_v107
  refine (Cert.Soft.r_where (Cert.Ref.maskOf (res_main_v56 V0)) _ p k).trans ?_
  have e1 : Cert.Ref.maskOf (res_main_v56 V0) (ix2 p k) = maskArr (pts V0) (ix2 p k) := Cert.Ref.mask_at V0 h p k
  unfold logit
  rw [← e1]
  by_cases hm : Cert.Ref.maskOf (res_main_v56 V0) (ix2 p k) = 1#1
  · rw [if_pos hm, if_pos hm]
    exact score_at _ _ _ p k _ _ _ (query_at (res_main_v25 V0) (Wq V0) (f V0) (Cert.Bdy.ref_feat V0) p)
      (fun d => keys_at (res_main_v25 V0) (I V0) (Wk V0) (f V0) (Cert.Bdy.ref_feat V0) p k d _ (idx_at V0 h p k))
      (fun d => pos_at (E V0) _ p k d (place (pts V0) p k) (kept (res_main_v76 V0) p k _ ((congrFun (num_eq' V0 h) _).trans (num_eq _ p k))))
  · rw [if_neg hm, if_neg hm]

/-! ## The weights and what they weigh -/

/-- The reference's weights. -/
abbrev wts : FVec Ideal S20000x1x27 .f32 :=
  Host.divf (res_main_v114 V0) (broadcastInDim S20000x1x27 ![0, 1, 2] bcast_S20000x1x1_S20000x1x27_0_1_2 (broadcastInDim S20000x1x1 ![0, 1] bcast_S20000x1_S20000x1x1_0_1
    (Host.reduceAdd (res_main_v114 V0) (constant S_ .f32 0x00000000#32) reducesTo_S20000x1x27_S20000x1_d2 h_S_)))

theorem exps_at (h : Small (pts V0)) (p : Fin 20000) (k : Fin 27) :
    res_main_v114 V0 (ix3 p 0 k) = Cert.Soft.ex (logit (pts V0) (f V0) (Wq V0) (Wk V0) (E V0) p) k := by
  unfold res_main_v114
  refine (Cert.Soft.r_ex (res_main_v107 V0) p k).trans ?_
  rw [show (fun k => res_main_v107 V0 (ix3 p 0 k)) = _ from funext fun k => logit_at V0 h p k]

theorem wts_at (h : Small (pts V0)) (p : Fin 20000) (k : Fin 27) :
    wts V0 (ix3 p 0 k) = soft (logit (pts V0) (f V0) (Wq V0) (Wk V0) (E V0) p) k := by
  refine (Cert.Soft.r_soft (res_main_v114 V0) p k).trans ?_
  unfold soft
  exact congr (congrArg Ideal.div (exps_at V0 h p k)) (Finset.sum_congr rfl fun j _ => exps_at V0 h p j)

theorem weights_eq (h : Small (pts V0)) : wts V0 = weights (pts V0) (f V0) (Wq V0) (Wk V0) (E V0) :=
  weights_ext _ _ fun p k => wts_at V0 h p k

/-- The reference's weighted values and the point's own. -/
abbrev mixed : FVec Ideal S20000x64 .f32 :=
  addf (shapeCast S20000x64 (Host.dotGeneral dot_S20000x1x27_S20000x27x64_S20000x1x64_2_1_1_2_0_0 none (wts V0)
    (Host.dotGeneral dot_S20000x27x32_S32x64_S20000x27x64_2_0_01_1_n_n none (Host.gather gather_S20000x32_S20000x27x1_S20000x27x32_2_0_n_n_0_2_132 (S V0) (I V0)) (Wv V0)))
      shapeCasts_S20000x1x64_S20000x64)
    (Host.dotGeneral dot_S20000x32_S32x64_S20000x64_1_0_0_1_n_n none (S V0) (Wv V0))

theorem mixed_eq (h : Small (pts V0)) : mixed V0 = mix (pts V0) (f V0) (sem V0) (Wq V0) (Wk V0) (Wv V0) (E V0) := by
  refine rows_ext _ _ fun p d => (Cert.Soft.r_mix (wts V0) _ _ p d).trans ?_
  refine congr (congrArg HAdd.hAdd (Finset.sum_congr rfl fun k _ => ?_)) (Cert.Bdy.lin_at (S V0) (Wv V0) p d)
  exact congr (congrArg HMul.hMul (wts_at V0 h p k)) (values_at (S V0) (I V0) (Wv V0) p k d _ (idx_at V0 h p k))

/-- The reference's refined features, in the form the program's take. -/
theorem refined_eq (h : Small (pts V0)) :
    addf (Host.dotGeneral dot_S20000x64_S64x64_S20000x64_1_0_0_1_n_n none (mixed V0) (Wo V0))
      (broadcastInDim S20000x64 ![0, 1] bcast_S1x64_S20000x64_0_1 (broadcastInDim S1x64 ![1] bcast_S64_S1x64_1 (bo V0)))
      = Cert.Parts.refined (mix (pts V0) (f V0) (sem V0) (Wq V0) (Wk V0) (Wv V0) (E V0)) (Wo V0) (bo V0) := by
  rw [mixed_eq V0 h]
  rfl

end Cert.RAtt
-- ==== Proof.Values.lean ====
module

public import proofs.«01_k».proof.Proof.Frames
public import proofs.«01_k».proof.Proof.Tail
public import proofs.«01_k».proof.Proof.RefMask
public import proofs.«01_k».proof.Proof.Small
public import proofs.«01_k».proof.Proof.RAtt

/-! # The values: the six results are the reference's -/

set_option maxRecDepth 16384

@[expose] public section

noncomputable section

namespace Cert.Values

open Idealize.ShloMosaic Idealize.ShloMosaic.TcCoe Idealize.SL.Sem
open Cert.Knn (Small nbArr maskArr nb)

section
open Cert.ReferenceIdeal Cert.ReferenceIdeal.Gen Cert.ReferenceIdeal.Value

/-- The reference's neighbours, as an array. -/
theorem ref_idx (V0 : Valuation τ sig (Elt Ideal)) (h : Small (Cert.Ref.pts V0)) : res_main_indices V0 = nbArr (Cert.Ref.pts V0) := by
  funext i
  rw [eq_ix2 i]
  exact Cert.Ref.indices_at V0 h _ _

/-- The reference's mask, as an array. -/
theorem ref_mask (V0 : Valuation τ sig (Elt Ideal)) (h : Small (Cert.Ref.pts V0)) :
    Cert.Ref.maskOf (res_main_v56 V0) = maskArr (Cert.Ref.pts V0) := by
  funext i
  rw [eq_ix2 i]
  exact Cert.Ref.mask_at V0 h _ _

end

section
open Cert.KernelIdeal Cert.KernelIdeal.Gen Cert.Run
open Cert.Att Cert.Spec Cert.Parts
open Cert.Bdy (feat proj mfeat)

/-- Boundary logits of equal arrays are equal. -/
theorem bdy_congr {a a' : FVec Ideal S20000x32 .f32} {b b' : FVec Ideal S32x64 .f32} {d d' e e' : FVec Ideal S64 .f32}
    {f f' : FVec Ideal S64x1 .f32} {g g' : FVec Ideal S1 .f32} (ha : a = a') (hb : b = b') (hd : d = d') (he : e = e') (hf : f = f') (hg : g = g') :
    Cert.Bdy.bdyArr a b d e f g = Cert.Bdy.bdyArr a' b' d' e' f' g' := by
  subst ha hb hd he hf hg
  rfl

/-- The features of equal arrays are equal. -/
theorem feat_congr {a a' : FVec Ideal S20000x32 .f32} {b b' : FVec Ideal S32x64 .f32} {d d' e e' : FVec Ideal S64 .f32}
    (ha : a = a') (hb : b = b') (hd : d = d') (he : e = e') : feat a b d e = feat a' b' d' e' := by
  subst ha hb hd he
  rfl

/-- The attention weights of equal arrays are equal. -/
theorem weights_congr {A A' : IVec S20000x4 32} {f f' : Fin 20000 → Fin 64 → EReal} {q q' k k' : FVec Ideal S64x64 .f32} {e e' : FVec Ideal S27x64 .f32}
    (hA : A = A') (hf : f = f') (hq : q = q') (hk : k = k') (he : e = e') : weights A f q k e = weights A' f' q' k' e' := by
  subst hA hf hq hk he
  rfl

/-- The weighted values of equal arrays are equal. -/
theorem mix_congr {A A' : IVec S20000x4 32} {f f' : Fin 20000 → Fin 64 → EReal} {s s' : FVec Ideal S20000x32 .f32} {q q' k k' : FVec Ideal S64x64 .f32}
    {v v' : FVec Ideal S32x64 .f32} {e e' : FVec Ideal S27x64 .f32}
    (hA : A = A') (hf : f = f') (hs : s = s') (hq : q = q') (hk : k = k') (hv : v = v') (he : e = e') :
    mix A f (fun p j => s (ix2 p j)) q k v e = mix A' f' (fun p j => s' (ix2 p j)) q' k' v' e' := by
  subst hA hf hs hq hk hv he
  rfl

section
variable (m : (l : Loc nD τ sig) → Buf (Elt Ideal) l)

/-- The features before the two last products, of the run's arguments. -/
abbrev mixOf (c : Dev nD) : FVec Ideal S20000x64 .f32 := mix (A m c) (mfeat m c) (sem m c) (Wq m c) (Wk m c) (Wv m c) (E m c)

/-- The refined features, of the run's arguments. -/
abbrev refinedOf (c : Dev nD) : FVec Ideal S20000x64 .f32 :=
  refined (mixOf m c) (m ((c : Thread nD τ).loc main_arg12)) (m ((c : Thread nD τ).loc main_arg13))

end

/-- Both programs give the same six results. -/
theorem algebraic : Cert.algebraic_KernelIdeal_ReferenceIdeal_pre_in_range := by
  intro m g m' g' hpre hargs
  have hp (c : Dev nD) := Cert.Small.of_pre _ _ _ _ _ _ _ _ _ _ _ _ _ _ _ _ (hpre c)
  have hs (c : Dev nD) : Small (A m c) := (hp c).1
  have hq (c : Dev nD) (p : Fin 20000) (d : Fin 64) : Cert.Fine.Fin' (proj (mfeat m c) (Wq m c) (ix2 p d)) :=
    Cert.Fine.lin_fin _ _ (fun j => Cert.Fine.norm_fin _ _ _ (fun k => (hp c).2.1 (ix1 k)) (fun k => (hp c).2.2.1 (ix1 k)) j) (fun j k => (hp c).2.2.2.1 (ix2 j k)) d
  have he (c : Dev nD) (j : Fin 27) (d : Fin 64) : Cert.Fine.Fin' (E m c (ix2 j d)) := (hp c).2.2.2.2 (ix2 j d)
  refine ⟨fun c => classes (refinedOf m c) (m ((c : Thread nD τ).loc main_arg14)) (m ((c : Thread nD τ).loc main_arg15)),
    fun c => Cert.Bdy.bdyArr (m ((c : Thread nD τ).loc main_arg1)) (m ((c : Thread nD τ).loc main_arg3))
      (m ((c : Thread nD τ).loc main_arg4)) (m ((c : Thread nD τ).loc main_arg5)) (m ((c : Thread nD τ).loc main_arg6)) (m ((c : Thread nD τ).loc main_arg7)),
    fun c => weights (A m c) (mfeat m c) (Wq m c) (Wk m c) (E m c),
    fun c => refinedOf m c, fun c => nbArr (A m c), fun c => maskArr (A m c), ?_, ?_⟩
  · exact (θ_run defs _ _).mono (fun r h c =>
      ⟨(h.1 c _ (mem_uc main_v79 (by decide))).trans (Cert.Att.classes_of_run m c (hs c) (hq c) (he c)),
        (h.1 c _ (mem_uc main_v3_1 (by decide))).trans (Cert.Bdy.bdy_of_run m c),
        (h.1 c _ (mem_uc main_v80 (by decide))).trans (Cert.Att.weights_of_run m c (hs c) (hq c) (he c)),
        (h.1 c _ (mem_uc main_v75 (by decide))).trans (Cert.Att.refined_of_run m c (hs c) (hq c) (he c)),
        (h.1 c _ (mem_uc main_v17 (by decide))).trans (Cert.Knn.idx_of_run m c (hs c)),
        (h.1 c _ (mem_uc main_v21 (by decide))).trans (Cert.Knn.mask_of_run m c (hs c)),
        (h.1 c _ (mem_uc main_arg0 (by decide))).trans (V13_main_arg0 m (outs m) c), (h.1 c _ (mem_uc main_arg1 (by decide))).trans (V13_main_arg1 m (outs m) c), (h.1 c _ (mem_uc main_arg2 (by decide))).trans (V13_main_arg2 m (outs m) c), (h.1 c _ (mem_uc main_arg3 (by decide))).trans (V13_main_arg3 m (outs m) c), (h.1 c _ (mem_uc main_arg4 (by decide))).trans (V13_main_arg4 m (outs m) c), (h.1 c _ (mem_uc main_arg5 (by decide))).trans (V13_main_arg5 m (outs m) c), (h.1 c _ (mem_uc main_arg6 (by decide))).trans (V13_main_arg6 m (outs m) c), (h.1 c _ (mem_uc main_arg7 (by decide))).trans (V13_main_arg7 m (outs m) c), (h.1 c _ (mem_uc main_arg8 (by decide))).trans (V13_main_arg8 m (outs m) c), (h.1 c _ (mem_uc main_arg9 (by decide))).trans (V13_main_arg9 m (outs m) c), (h.1 c _ (mem_uc main_arg10 (by decide))).trans (V13_main_arg10 m (outs m) c), (h.1 c _ (mem_uc main_arg11 (by decide))).trans (V13_main_arg11 m (outs m) c), (h.1 c _ (mem_uc main_arg12 (by decide))).trans (V13_main_arg12 m (outs m) c), (h.1 c _ (mem_uc main_arg13 (by decide))).trans (V13_main_arg13 m (outs m) c), (h.1 c _ (mem_uc main_arg14 (by decide))).trans (V13_main_arg14 m (outs m) c), (h.1 c _ (mem_uc main_arg15 (by decide))).trans (V13_main_arg15 m (outs m) c)⟩) (run_main m g)
  · refine (θ_run Cert.ReferenceIdeal.defs _ _).mono (fun r h c => ?_) (Cert.ReferenceIdeal.Value.run (F := Ideal) m' g')
    obtain ⟨a0, a1, a2, a3, a4, a5, a6, a7, a8, a9, a10, a11, a12, a13, a14, a15⟩ := hargs c
    obtain ⟨h1, h2, h3, h4, h5, h6, rest⟩ := h c
    have ha : Cert.Ref.pts (StableHlo.launchContents m' c) = A m c := a0
    have hs' : Small (Cert.Ref.pts (StableHlo.launchContents m' c)) := ha.symm ▸ hs c
    have hf : Cert.RAtt.f (StableHlo.launchContents m' c) = mfeat m c := feat_congr a1 a3 a4 a5
    have hr := (Cert.RAtt.refined_eq (StableHlo.launchContents m' c) hs').trans (refined_congr (mix_congr ha hf a2 a8 a9 a10 a11) a12 a13)
    exact ⟨h1.trans (classes_congr hr a14 a15),
      h2.trans ((Cert.Bdy.ref_bdy (StableHlo.launchContents m' c)).trans (bdy_congr a1 a3 a4 a5 a6 a7)),
      h3.trans ((Cert.RAtt.weights_eq (StableHlo.launchContents m' c) hs').trans (weights_congr ha hf a8 a9 a11)), h4.trans hr,
      (h5.trans (ref_idx _ hs')).trans (congrArg nbArr ha), (h6.trans (ref_mask _ hs')).trans (congrArg maskArr ha), rest⟩

end

end Cert.Values
-- ==== Proof.lean ====
module

public import proofs.«01_k».proof.Defs
public import proofs.«01_k».proof.Proof.Frames
public import proofs.«01_k».proof.Proof.Values

@[expose] public section

noncomputable section

namespace Cert.Proof

open Idealize.ShloMosaic Idealize.SL.Sem

/-- Everything that is claimed: the frames of the three programs, the sanctioned idealization, and the equality of the
    six results. -/
theorem claim : Cert.Claim := ⟨Cert.Kernel.Gen.facts, Cert.KernelIdeal.Gen.facts, Cert.ReferenceIdeal.Gen.facts,
  Cert.Pre_in_range.Gen.facts, Cert.Frames.frame_kernel, Cert.Frames.frame_ideal,
  Cert.Frames.frame_ideal_in_range, Cert.Frames.frame_reference, Cert.Frames.frame_reference_in_range, trivial,
  Cert.Values.algebraic⟩

end Cert.Proof

end
